-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S2x512x768 1 × IVec S768x512 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_scores_ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bcast_S_S2x2048x768 : S_.BroadcastsInDim S2x2048x768 (![] : Fin 0 → Fin S2x2048x768.rank)
  bcast_S_S768x512 : S_.BroadcastsInDim S768x512 (![] : Fin 0 → Fin S768x512.rank)
  bcast_S_S2x2048x8x64 : S_.BroadcastsInDim S2x2048x8x64 (![] : Fin 0 → Fin S2x2048x8x64.rank)

variable [Facts]

def fn {F : FTy → Type} [FloatOps F] (main_arg0 : FVec F S2x2048x768 .f32) (main_arg1 : FVec F S768x512 .f32) (main_arg2 : FVec F S2x2048x8x64 .f32) (main_arg3 : FVec F S2x2048x8x64 .f32) (main_arg4 : FVec F S512x768 .f32) : IVec S2x2048x768 1 × IVec S768x512 1 × IVec S2x2048x8x64 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x2048x8x64 .f32 := Host.absf main_arg2
  let main_cst_1 : FVec F S_ .f32 := constant S_ .f32 0x7F800000#32
  let main_v7 : FVec F S2x2048x8x64 .f32 := broadcastInDim S2x2048x8x64 ![] bcast_S_S2x2048x8x64 main_cst_1
  let main_v8 : IVec S2x2048x8x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S4x2x512x512 : Shape := ⟨4, ![4, 2, 512, 512]⟩
abbrev S2x8x512x64 : Shape := ⟨4, ![2, 8, 512, 64]⟩
abbrev S2x8x512 : Shape := ⟨3, ![2, 8, 512]⟩
abbrev S4 : Shape := ⟨1, ![4]⟩
abbrev S_ : Shape := ⟨0, ![]⟩
abbrev S1x512x8x64 : Shape := ⟨4, ![1, 512, 8, 64]⟩
abbrev S512x8x64 : Shape := ⟨3, ![512, 8, 64]⟩
abbrev S512x512 : Shape := ⟨2, ![512, 512]⟩
abbrev S64x512 : Shape := ⟨2, ![64, 512]⟩
abbrev S1x1x64x512 : Shape := ⟨4, ![1, 1, 64, 512]⟩
abbrev S1024x768 : Shape := ⟨2, ![1024, 768]⟩
abbrev S1024x512 : Shape := ⟨2, ![1024, 512]⟩
abbrev S512x64 : Shape := ⟨2, ![512, 64]⟩
abbrev S1x1x512x64 : Shape := ⟨4, ![1, 1, 512, 64]⟩
abbrev S1x8x64x64 : Shape := ⟨4, ![1, 8, 64, 64]⟩
abbrev S8x64x64 : Shape := ⟨3, ![8, 64, 64]⟩
abbrev S1 : Shape := ⟨1, ![1]⟩
abbrev S1x1x512x512 : Shape := ⟨4, ![1, 1, 512, 512]⟩
abbrev S1x4x512x64 : Shape := ⟨4, ![1, 4, 512, 64]⟩
abbrev S4x512x64 : Shape := ⟨3, ![4, 512, 64]⟩
abbrev S4x512x512 : Shape := ⟨3, ![4, 512, 512]⟩
abbrev S1x512x512 : Shape := ⟨3, ![1, 512, 512]⟩
abbrev S4x512 : Shape := ⟨2, ![4, 512]⟩
abbrev S1x4x512 : Shape := ⟨3, ![1, 4, 512]⟩
abbrev S1x8x192x64 : Shape := ⟨4, ![1, 8, 192, 64]⟩
abbrev S8x192x64 : Shape := ⟨3, ![8, 192, 64]⟩
abbrev S1x8x512x64 : Shape := ⟨4, ![1, 8, 512, 64]⟩
abbrev S8x512x64 : Shape := ⟨3, ![8, 512, 64]⟩
abbrev S8x192x192 : Shape := ⟨3, ![8, 192, 192]⟩
abbrev S1x8x192 : Shape := ⟨3, ![1, 8, 192]⟩
abbrev S8x192 : Shape := ⟨2, ![8, 192]⟩
abbrev S8x128x64 : Shape := ⟨3, ![8, 128, 64]⟩
abbrev S8x192x128 : Shape := ⟨3, ![8, 192, 128]⟩
abbrev S1x8x128x64 : Shape := ⟨4, ![1, 8, 128, 64]⟩
abbrev S8x128x192 : Shape := ⟨3, ![8, 128, 192]⟩
abbrev S1x8x128 : Shape := ⟨3, ![1, 8, 128]⟩
abbrev S8x128 : Shape := ⟨2, ![8, 128]⟩
abbrev S8x128x128 : Shape := ⟨3, ![8, 128, 128]⟩
abbrev S1x8x320x64 : Shape := ⟨4, ![1, 8, 320, 64]⟩
abbrev S8x320x64 : Shape := ⟨3, ![8, 320, 64]⟩
abbrev S1x8x320 : Shape := ⟨3, ![1, 8, 320]⟩
abbrev S8x320 : Shape := ⟨2, ![8, 320]⟩
abbrev S1x8x384x64 : Shape := ⟨4, ![1, 8, 384, 64]⟩
abbrev S8x384x64 : Shape := ⟨3, ![8, 384, 64]⟩
abbrev S1x8x384 : Shape := ⟨3, ![1, 8, 384]⟩
abbrev S8x384 : Shape := ⟨2, ![8, 384]⟩
abbrev S1x8x64 : Shape := ⟨3, ![1, 8, 64]⟩
abbrev S8x64 : Shape := ⟨2, ![8, 64]⟩
abbrev S1x8x512 : Shape := ⟨3, ![1, 8, 512]⟩
abbrev S8x512 : Shape := ⟨2, ![8, 512]⟩
abbrev S8x512x1 : Shape := ⟨3, ![8, 512, 1]⟩
abbrev S1x512x64 : Shape := ⟨3, ![1, 512, 64]⟩
abbrev S64x768 : Shape := ⟨2, ![64, 768]⟩
abbrev S1x512x768 : Shape := ⟨3, ![1, 512, 768]⟩

abbrev nBuf : Space → Nat
  | .hbm => 6
  | .vmem => 16
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S4x2x512x512, .bf16⟩
  | .local _ .vmem, ⟨7, _⟩ => ⟨S4x2x512x512, .bf16⟩
  | .local _ .vmem, ⟨8, _⟩ => ⟨S2x8x512x64, .bf16⟩
  | .local _ .vmem, ⟨9, _⟩ => ⟨S2x8x512x64, .bf16⟩
  | .local _ .vmem, ⟨10, _⟩ => ⟨S2x8x512x64, .bf16⟩
  | .local _ .vmem, ⟨11, _⟩ => ⟨S2x8x512x64, .bf16⟩
  | .local _ .vmem, ⟨12, _⟩ => ⟨S2x8x512x64, .f32⟩
  | .local _ .vmem, ⟨13, _⟩ => ⟨S2x8x512x64, .f32⟩
  | .local _ .vmem, ⟨14, _⟩ => ⟨S2x8x512, .f32⟩
  | .local _ .vmem, ⟨15, _⟩ => ⟨S2x8x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_118 : BitVec 32 := 1#32
  let v136 : BitVec 32 := Scalar.muli v7 c1_i32_118
  let v137 : BitVec 32 := Scalar.addi c0_i32_119 v136
  v137.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_130 : BitVec 32 := 1#32
  let v146 : BitVec 32 := Scalar.muli v5 c1_i32_130
  let v147 : BitVec 32 := Scalar.addi c0_i32_131 v146
  v147.toNat
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_142 : BitVec 32 := 1#32
  let v156 : BitVec 32 := Scalar.muli v7 c1_i32_142
  let v157 : BitVec 32 := Scalar.addi c0_i32_143 v156
  v157.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_154 : BitVec 32 := 1#32
  let v166 : BitVec 32 := Scalar.muli v5 c1_i32_154
  let v167 : BitVec 32 := Scalar.addi c0_i32_155 v166
  v167.toNat
def k0_dev7 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_434 : BitVec 32 := 1#32
  let v532 : BitVec 32 := Scalar.muli v7 c1_i32_434
  let v533 : BitVec 32 := Scalar.addi c0_i32_435 v532
  v533.toNat
def k0_dev8 (d0 : Dev nD) : Nat :=
  let c0_i32_459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_458 : BitVec 32 := 1#32
  let v550 : BitVec 32 := Scalar.muli v5 c1_i32_458
  let v551 : BitVec 32 := Scalar.addi c0_i32_459 v550
  v551.toNat
def k0_dev9 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_482 : BitVec 32 := 1#32
  let v568 : BitVec 32 := Scalar.muli v7 c1_i32_482
  let v569 : BitVec 32 := Scalar.addi c0_i32_483 v568
  v569.toNat
def k0_dev10 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_506 : BitVec 32 := 1#32
  let v586 : BitVec 32 := Scalar.muli v5 c1_i32_506
  let v587 : BitVec 32 := Scalar.addi c0_i32_507 v586
  v587.toNat
def k0_dev11 (d0 : Dev nD) : Nat :=
  let c0_i32_683 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_682 : BitVec 32 := 1#32
  let v752 : BitVec 32 := Scalar.muli v7 c1_i32_682
  let v753 : BitVec 32 := Scalar.addi c0_i32_683 v752
  v753.toNat
def k0_dev12 (d0 : Dev nD) : Nat :=
  let c0_i32_707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_706 : BitVec 32 := 1#32
  let v770 : BitVec 32 := Scalar.muli v5 c1_i32_706
  let v771 : BitVec 32 := Scalar.addi c0_i32_707 v770
  v771.toNat
def k0_dev13 (d0 : Dev nD) : Nat :=
  let c0_i32_731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_730 : BitVec 32 := 1#32
  let v788 : BitVec 32 := Scalar.muli v7 c1_i32_730
  let v789 : BitVec 32 := Scalar.addi c0_i32_731 v788
  v789.toNat
def k0_dev14 (d0 : Dev nD) : Nat :=
  let c0_i32_755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_754 : BitVec 32 := 1#32
  let v806 : BitVec 32 := Scalar.muli v5 c1_i32_754
  let v807 : BitVec 32 := Scalar.addi c0_i32_755 v806
  v807.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S2x2048x512 : Shape := ⟨3, ![2, 2048, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048x2048 : Shape := ⟨4, ![2, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S1x1x2048x1 : Shape := ⟨4, ![1, 1, 2048, 1]⟩
abbrev S2x8x64x2048 : Shape := ⟨4, ![2, 8, 64, 2048]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x512, .f32⟩
  | .hbm, ⟨2, _⟩ => ⟨S2x2048x8x64, .f32⟩
  | .hbm, ⟨3, _⟩ => ⟨S2x2048x8x64, .f32⟩
  | .hbm, ⟨4, _⟩ => ⟨S512x768, .f32⟩
  | .hbm, ⟨5, _⟩ => ⟨S2x2048x512, .f32⟩
  | .hbm, ⟨6, _⟩ => ⟨S2x2048x8x64, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S2048x2048, .i1⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S_, .i1⟩
  | .hbm, ⟨74, _⟩ => ⟨S2048x2048, .i1⟩
  | .hbm, ⟨75, _⟩ => ⟨S2048x2048, .i1⟩
  | .hbm, ⟨76, _⟩ => ⟨S2048x2048, .i1⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S2x8x2048x2048, .f32⟩
  | .hbm, ⟨85, _⟩ => ⟨S_, .f32⟩
  | .hbm, ⟨86, _⟩ => ⟨S2x8x2048x2048, .f32⟩
  | .hbm, ⟨87, _⟩ => ⟨S2x8x2048x2048, .f32⟩
  | .hbm, ⟨88, _⟩ => ⟨S1x1x2048x2048, .i1⟩
  | .hbm, ⟨89, _⟩ => ⟨S_, .f32⟩
  | .hbm, ⟨90, _⟩ => ⟨S_, .f32⟩
  | .hbm, ⟨91, _⟩ => ⟨S2x8x2048x2048, .i1⟩
  | .hbm, ⟨92, _⟩ => ⟨S2x8x2048x2048, .f32⟩
  | .hbm, ⟨93, _⟩ => ⟨S2x8x2048x2048, .f32⟩
  | .hbm, ⟨94, _⟩ => ⟨S_, .f32⟩
  | .hbm, ⟨95, _⟩ => ⟨S2x8x2048, .f32⟩
  | .hbm, ⟨96, _⟩ => ⟨S2x8x2048x1, .f32⟩
  | .hbm, ⟨97, _⟩ => ⟨S2x8x2048x2048, .f32⟩
  | .hbm, ⟨98, _⟩ => ⟨S2x8x2048x2048, .f32⟩
  | .hbm, ⟨99, _⟩ => ⟨S2x8x2048x2048, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S2x8x2048, .f32⟩
  | .hbm, ⟨105, _⟩ => ⟨S2x8x2048x1, .f32⟩
  | .hbm, ⟨106, _⟩ => ⟨S_, .f32⟩
  | .hbm, ⟨107, _⟩ => ⟨S_, .f32⟩
  | .hbm, ⟨108, _⟩ => ⟨S2x8x2048x1, .i1⟩
  | .hbm, ⟨109, _⟩ => ⟨S2x8x2048x1, .f32⟩
  | .hbm, ⟨110, _⟩ => ⟨S2x8x2048x1, .f32⟩
  | .hbm, ⟨111, _⟩ => ⟨S2x8x2048x2048, .f32⟩
  | .hbm, ⟨112, _⟩ => ⟨S2x8x2048x2048, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S2x8x2048x2048, .i1⟩
  | .hbm, ⟨117, _⟩ => ⟨S2x8x2048x2048, .f32⟩
  | .hbm, ⟨118, _⟩ => ⟨S2x8x2048x2048, .f32⟩
  | .hbm, ⟨119, _⟩ => ⟨S2x8x64x2048, .f32⟩
  | .hbm, ⟨120, _⟩ => ⟨S2x2048x8x64, .f32⟩
  | .hbm, ⟨121, _⟩ => ⟨S2x2048x512, .f32⟩
  | .hbm, ⟨122, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Protocol.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts

/-! # The two-way ring: cells, schedule, what is owed, and one rule per remote step -/

abbrev UB : Type := URounds (GSem nD τ sig) Bool
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
/-- Right as a permutation of the ring. -/
def ring : Dev nD ≃ Dev nD := ⟨nxt, prv, prv_nxt, nxt_prv⟩

/-! ## Transfers: twelve in program order, four lanes by three hops

Lane 0 carries the keys of batch 0 to the right, lane 1 the keys of batch 1 to the left, lane 2 the values of batch 0 to
the right, lane 3 the values of batch 1 to the left. Hop `s` copies slot `s` to the neighbour's slot `s + 1`. -/

abbrev lane (j : Fin 12) : ℕ := j.val % 4
abbrev hop (j : Fin 12) : ℕ := j.val / 4
theorem hop_lt (j : Fin 12) : hop j < 4 := by revert j; decide
theorem hop1_lt (j : Fin 12) : hop j + 1 < 4 := by revert j; decide
/-- Where lane `l` goes. -/
def peer (l : ℕ) (c : Dev nD) : Dev nD := if l % 2 = 0 then nxt c else prv c
/-- Where lane `l` comes from. -/
def reep (l : ℕ) (c : Dev nD) : Dev nD := if l % 2 = 0 then prv c else nxt c
theorem peer_reep (l : ℕ) (c : Dev nD) : peer l (reep l c) = c := by
  unfold peer reep; split; exacts [nxt_prv c, prv_nxt c]
theorem reep_peer (l : ℕ) (c : Dev nD) : reep l (peer l c) = c := by
  unfold peer reep; split; exacts [prv_nxt c, nxt_prv c]
/-- Lane `l`'s step as a permutation. -/
def laneRing (l : ℕ) : Dev nD ≃ Dev nD := ⟨peer l, reep l, reep_peer l, peer_reep l⟩
/-- The device whose block lies in slot `s` of lane `l` on device `c`. -/
def org (l : ℕ) : ℕ → Dev nD → Dev nD
  | 0, c => c
  | s + 1, c => reep l (org l s c)
theorem org_peer (l s : ℕ) (c : Dev nD) : org l (s + 1) (peer l c) = org l s c := by
  induction s with
  | zero => exact reep_peer l c
  | succ s ih => show reep l (org l (s + 1) (peer l c)) = _; rw [ih]; rfl

abbrev rM : Memref sig .tc .vmem S4x2x512x512 .bf16 := Memref.whole cc0_scratch0
abbrev lM : Memref sig .tc .vmem S4x2x512x512 .bf16 := Memref.whole cc0_scratch1

theorem slot_inb (s p : ℕ) (hs : s < 4) (hp : p < 2) :
    ∀ a, (![s, p, 0, 0] : Fin 4 → ℕ) a + S1x1x512x512.size a ≤ S4x2x512x512.size a := by
  intro a; fin_cases a
  · show s + 1 ≤ 4; omega
  · show p + 1 ≤ 2; omega
  · show 0 + 512 ≤ 512; omega
  · show 0 + 512 ≤ 512; omega

/-- Slot `s`, part `p` of a ring buffer as a 512 by 512 matrix. -/
abbrev slotM (B : Memref sig .tc .vmem S4x2x512x512 .bf16) (s p : ℕ) (hs : s < 4) (hp : p < 2) : Memref sig .tc .vmem S512x512 .bf16 :=
  (B.slice (Rect.unit (s := S4x2x512x512) ![s, p, 0, 0] S1x1x512x512.size (slot_inb s p hs hp)) (fun _ => rfl)).squeeze S512x512 squeezes_S1x1x512x512_S512x512

theorem part_lt (l : ℕ) : l / 2 % 2 < 2 := Nat.mod_lt _ (by decide)
/-- Lane `l`'s slot `s`. -/
abbrev laneM (l : ℕ) : Memref sig .tc .vmem S4x2x512x512 .bf16 := if l % 2 = 0 then rM else lM
abbrev slotL (l s : ℕ) (hs : s < 4) : Memref sig .tc .vmem S512x512 .bf16 := slotM (laneM l) s (l / 2 % 2) hs (part_lt l)

/-- Device `c` holds share `q` of a 512 by 512 matrix buffer that reads `X`. -/
def holds (c : Dev nD) (m : Memref sig .tc .vmem S512x512 .bf16) (q : PosShare TreeShare) (X : Vec F S512x512 .bf16) : sProp 𝕄 :=
  iprop(∃ f : Buf (Elt F) (m.view.loc (c : Thread nD τ)), ⌜m.view.read (Elt F) f = X⌝ ∗ (m.view.loc (c : Thread nD τ) ↦[m.view.set]{q} f))
/-- Device `c` holds all of it, at any contents. -/
def blank (c : Dev nD) (m : Memref sig .tc .vmem S512x512 .bf16) : sProp 𝕄 :=
  iprop(∃ f : Buf (Elt F) (m.view.loc (c : Thread nD τ)), (m.view.loc (c : Thread nD τ) ↦[m.view.set]{fullShare} f))

omit [FloatOps F] [Named F] in
instance holds_storable (c : Dev nD) (m) (q) (X) : BI.Storable (upEmb : UEmb _ 𝕄) (holds (F := F) c m q X) := by unfold holds; infer_instance
omit [FloatOps F] [Named F] in
instance blank_storable (c : Dev nD) (m) : BI.Storable (upEmb : UEmb _ 𝕄) (blank (F := F) c m) := by unfold blank; infer_instance

omit [FloatOps F] [Named F] in
theorem holds_blank (c : Dev nD) (m : Memref sig .tc .vmem S512x512 .bf16) (X : Vec F S512x512 .bf16) : holds c m fullShare X ⊢ (blank c m : sProp 𝕄) := by
  unfold holds blank; iintro ⟨%f, -, H⟩; iexists f; iexact H

omit [FloatOps F] [Named F] in
/-- Half is lent, half is kept. -/
theorem holds_split (c : Dev nD) (m : Memref sig .tc .vmem S512x512 .bf16) (X : Vec F S512x512 .bf16) :
    holds c m fullShare X ⊢ (iprop(holds c m fullShare.left X ∗ holds c m fullShare.right X) : sProp 𝕄) := by
  unfold holds; iintro ⟨%f, %hf, H⟩
  ihave H' := (pointsTo_share (PosShare.mem_left_op_right fullShare)).1 $$ H
  icases H' with ⟨H1, H2⟩
  isplitl [H1]
  · iexists f; isplitr; · (ipureintro; exact hf)
    iexact H1
  · iexists f; isplitr; · (ipureintro; exact hf)
    iexact H2

omit [FloatOps F] [Named F] in
theorem eq_on_of_read_eq {m : Memref sig .tc .vmem S512x512 .bf16} {f g : m.view.ty.Contents (Elt F)} (h : m.view.read (Elt F) f = m.view.read (Elt F) g) :
    ∀ i ∈ m.view.set, f i = g i := by
  intro i hi
  obtain ⟨x, -, rfl⟩ := Finset.mem_map.mp hi
  have hx := congrFun h x
  rw [View.read_apply, View.read_apply] at hx
  exact (Function.HasLeftInverse.injective ⟨_root_.cast (congrArg (Elt F) m.view.elt_eq).symm, fun z => by rw [cast_cast, cast_eq]⟩) hx

omit [FloatOps F] [Named F] in
theorem holds_join (c : Dev nD) (m : Memref sig .tc .vmem S512x512 .bf16) (X : Vec F S512x512 .bf16) :
    (iprop(holds c m fullShare.left X ∗ holds c m fullShare.right X) : sProp 𝕄) ⊢ holds c m fullShare X := by
  unfold holds; iintro ⟨⟨%f, %hf, H1⟩, ⟨%g, %hg, H2⟩⟩
  iexists f; isplitr; · (ipureintro; exact hf)
  ihave H2 := (Entails.of_eq (pointsTo_congr (f := g) (g := f) (eq_on_of_read_eq (m := m) (hg.trans hf.symm)))) $$ H2
  ihave H := (pointsTo_share (PosShare.mem_left_op_right fullShare)).2 $$ [H1 H2]
  · isplitl [H1]; · iexact H1
    iexact H2
  iexact H

/-! ## Cells -/

abbrev barS : Sem sig := (SemArray.scalar (sig.barrier 0 rfl) : Sems sig S_).sem
abbrev dS (n : ℕ) (h : n < 38) : DmaSem sig := (⟨n, h⟩ : Fin 38)
abbrev sendN (j : Fin 12) : ℕ := 6 + 8 * lane j + hop j
abbrev recvN (j : Fin 12) : ℕ := 11 + 8 * lane j + hop j
theorem sendN_lt (j : Fin 12) : sendN j < 38 := by revert j; decide
theorem recvN_lt (j : Fin 12) : recvN j < 38 := by revert j; decide
abbrev sendS (j : Fin 12) : DmaSem sig := dS (sendN j) (sendN_lt j)
abbrev recvS (j : Fin 12) : DmaSem sig := dS (recvN j) (recvN_lt j)
abbrev barCell (c : Dev nD) : GSem nD τ sig := ((c : Thread nD τ), .reg barS)
abbrev sendCell (c : Dev nD) (j : Fin 12) : GSem nD τ sig := ((c : Thread nD τ), .dma (sendS j))
abbrev recvCell (c : Dev nD) (j : Fin 12) : GSem nD τ sig := ((c : Thread nD τ), .dma (recvS j))

/-- The kernel's own semaphores; -/
abbrev osem (k : Fin 32) : SemLoc sig := .dma (dS (k.val + 6) (by omega))
/-- with the barrier's first. -/
abbrev csem (k : Fin 33) : SemLoc sig := if h : k.val = 0 then .reg barS else .dma (dS (k.val + 5) (by omega))
abbrev kcell (ck : Dev nD × Fin 33) : GSem nD τ sig := ((ck.1 : Thread nD τ), csem ck.2)
def kS (j : Fin 12) : Fin 33 := ⟨sendN j - 5, by have := sendN_lt j; omega⟩
def kR (j : Fin 12) : Fin 33 := ⟨recvN j - 5, by have := recvN_lt j; omega⟩
theorem kcell_0 (c : Dev nD) : kcell (c, 0) = barCell c := rfl
theorem kcell_S (c : Dev nD) (j : Fin 12) : kcell (c, kS j) = sendCell c j := by revert j; intro j; fin_cases j <;> rfl
theorem kcell_R (c : Dev nD) (j : Fin 12) : kcell (c, kR j) = recvCell c j := by revert j; intro j; fin_cases j <;> rfl

abbrev N : ℕ := (slotM rM 0 0 (by decide) (by decide)).view.dmaCredit
theorem N_pos : 0 < N := View.dmaCredit_pos _ (by decide)
theorem N_slot (l s : ℕ) (hs : s < 4) : (slotL l s hs).view.dmaCredit = N := by
  unfold slotL laneM; split <;> rfl

/-! ## The schedule

`Y l o`: the matrix lane `l` carries for device `o`. -/

variable (Y : ℕ → Dev nD → Vec F S512x512 .bf16)

/-- What slot `s` of lane `l` holds on device `c`. -/
abbrev at_ (l s : ℕ) (c : Dev nD) : Vec F S512x512 .bf16 := Y l (org l s c)
/-- The landing slots a neighbour opens: those of lanes of one direction, on device `c`. -/
def openedAt (b : ℕ) (c : Dev nD) (j : Fin 12) : sProp 𝕄 :=
  if lane j % 2 = b then blank (peer (lane j) c) (slotL (lane j) (hop j + 1) (hop1_lt j)) else iprop(emp)
omit [FloatOps F] [Named F] in
instance openedAt_storable (b : ℕ) (c : Dev nD) (j) : BI.Storable (upEmb : UEmb _ 𝕄) (openedAt (F := F) b c j) := by
  unfold openedAt; split <;> infer_instance
def opened (b : ℕ) (c : Dev nD) : sProp 𝕄 := bigSep Finset.univ (openedAt b c)
def sendPay (c : Dev nD) (j : Fin 12) : sProp 𝕄 := holds c (slotL (lane j) (hop j) (hop_lt j)) fullShare.left (at_ Y (lane j) (hop j) c)
def recvPay (c : Dev nD) (j : Fin 12) : sProp 𝕄 := holds c (slotL (lane j) (hop j + 1) (hop1_lt j)) fullShare (at_ Y (lane j) (hop j + 1) c)

abbrev IsBar (g : GSem nD τ sig) : Prop := g.1.2 = .tc ∧ g.2 = .reg barS
abbrev IsSend (g : GSem nD τ sig) (j : Fin 12) : Prop := g.2 = .dma (sendS j)
abbrev IsRecv (g : GSem nD τ sig) (j : Fin 12) : Prop := g.2 = .dma (recvS j)

/-- One round: a barrier cell has two duties of one unit (`true` by the right neighbour, `false` by the left), a transfer's
    two cells one duty each of a slot's credit. -/
def ringRd : Rounds.Schedule (GSem nD τ sig) Bool 𝕄 where
  duties g r := if r = 0 ∧ IsBar g then Finset.univ
    else if r = 0 ∧ g.1.2 = .tc ∧ ((∃ j, IsSend g j) ∨ ∃ j, IsRecv g j) then {false} else ∅
  unitless _ := False
  amount g _ _ := if g.2 = .reg barS then 1 else N
  payload g _ d :=
    if g.2 = .reg barS then (if d then opened 0 g.1.1 else opened 1 g.1.1)
    else if h : ∃ j, IsSend g j then sendPay Y g.1.1 h.choose
    else if h : ∃ j, IsRecv g j then recvPay Y g.1.1 h.choose
    else iprop(emp)
  amount_pos g _ _ _ := by
    by_cases h : g.2 = .reg barS
    · rw [if_pos h]; exact Nat.one_pos
    · rw [if_neg h]; exact N_pos

omit [FloatOps F] [Named F] in
instance opened_storable (b : ℕ) (c : Dev nD) : BI.Storable (upEmb : UEmb _ 𝕄) (opened (F := F) b c) := by
  unfold opened
  infer_instance
omit [FloatOps F] [Named F] in
instance ringRd_payload_storable (g : GSem nD τ sig) (r : ℕ) (d : Bool) :
    BI.Storable (upEmb : UEmb _ 𝕄) ((ringRd (F := F) Y).payload g r d) := by
  dsimp only [ringRd]
  unfold sendPay recvPay
  (repeat' split) <;> infer_instance

section Sched
variable (c : Dev nD) (j : Fin 12)

theorem send_ne_bar : (SemLoc.dma (sendS j) : SemLoc sig) ≠ .reg barS := fun h => by cases h
theorem recv_ne_bar : (SemLoc.dma (recvS j) : SemLoc sig) ≠ .reg barS := fun h => by cases h
theorem sendS_inj {i j : Fin 12} (h : (SemLoc.dma (sendS i) : SemLoc sig) = .dma (sendS j)) : i = j := by revert i j; decide
theorem recvS_inj {i j : Fin 12} (h : (SemLoc.dma (recvS i) : SemLoc sig) = .dma (recvS j)) : i = j := by revert i j; decide
theorem recv_ne_send (i j : Fin 12) : (SemLoc.dma (recvS i) : SemLoc sig) ≠ .dma (sendS j) := by revert i j; decide

omit [FloatOps F] [Named F] in
theorem duties_bar : (ringRd (F := F) Y).duties (barCell c) 0 = Finset.univ := by dsimp only [ringRd]; exact if_pos ⟨rfl, rfl, rfl⟩
omit [FloatOps F] [Named F] in
theorem duties_send : (ringRd (F := F) Y).duties (sendCell c j) 0 = {false} := by
  dsimp only [ringRd]; rw [if_neg (fun h => send_ne_bar j h.2.2)]; exact if_pos ⟨rfl, rfl, .inl ⟨j, rfl⟩⟩
omit [FloatOps F] [Named F] in
theorem duties_recv : (ringRd (F := F) Y).duties (recvCell c j) 0 = {false} := by
  dsimp only [ringRd]; rw [if_neg (fun h => recv_ne_bar j h.2.2)]; exact if_pos ⟨rfl, rfl, .inr ⟨j, rfl⟩⟩
omit [FloatOps F] [Named F] in
theorem duties_later (g : GSem nD τ sig) : ∀ r, 1 ≤ r → (ringRd (F := F) Y).duties g r = ∅ :=
  fun r hr => by dsimp only [ringRd]; rw [if_neg fun h => by omega, if_neg fun h => by omega]
omit [FloatOps F] [Named F] in
theorem duties_other (g : GSem nD τ sig) (hb : g.2 ≠ .reg barS) (hs : ∀ j, ¬ IsSend g j) (hr : ∀ j, ¬ IsRecv g j) :
    ∀ r, 0 ≤ r → (ringRd (F := F) Y).duties g r = ∅ :=
  fun r _ => by
    dsimp only [ringRd]; rw [if_neg fun h => hb h.2.2, if_neg]
    rintro ⟨-, -, ⟨j, h⟩ | ⟨j, h⟩⟩
    · exact hs j h
    · exact hr j h

omit [FloatOps F] [Named F] in
theorem amount_bar (d : Bool) : (ringRd (F := F) Y).amount (barCell c) 0 d = 1 := by dsimp only [ringRd]; exact if_pos rfl
omit [FloatOps F] [Named F] in
theorem amount_send (d : Bool) : (ringRd (F := F) Y).amount (sendCell c j) 0 d = N := by dsimp only [ringRd]; exact if_neg (send_ne_bar j)
omit [FloatOps F] [Named F] in
theorem amount_recv (d : Bool) : (ringRd (F := F) Y).amount (recvCell c j) 0 d = N := by dsimp only [ringRd]; exact if_neg (recv_ne_bar j)

omit [FloatOps F] [Named F] in
theorem expect_bar : (ringRd (F := F) Y).expect (barCell c) 0 = 2 := by
  unfold Schedule.expect Schedule.amountOf
  rw [duties_bar, Finset.sum_congr rfl fun d _ => amount_bar Y c d, Finset.sum_const, Finset.card_univ, Fintype.card_bool, smul_eq_mul]
omit [FloatOps F] [Named F] in
theorem expect_send : (ringRd (F := F) Y).expect (sendCell c j) 0 = N := by
  unfold Schedule.expect Schedule.amountOf; rw [duties_send, Finset.sum_singleton, amount_send]
omit [FloatOps F] [Named F] in
theorem expect_recv : (ringRd (F := F) Y).expect (recvCell c j) 0 = N := by
  unfold Schedule.expect Schedule.amountOf; rw [duties_recv, Finset.sum_singleton, amount_recv]

omit [FloatOps F] [Named F] in
theorem payload_bar (d : Bool) : (ringRd (F := F) Y).payload (barCell c) 0 d = if d then opened 0 c else opened 1 c := by
  dsimp only [ringRd]; rw [if_pos rfl]
omit [FloatOps F] [Named F] in
theorem payload_send (d : Bool) : (ringRd (F := F) Y).payload (sendCell c j) 0 d = sendPay Y c j := by
  have h : ∃ i, IsSend (sendCell c j) i := ⟨j, rfl⟩
  dsimp only [ringRd]; rw [if_neg (send_ne_bar j), dif_pos h, ← sendS_inj h.choose_spec]
omit [FloatOps F] [Named F] in
theorem payload_recv (d : Bool) : (ringRd (F := F) Y).payload (recvCell c j) 0 d = recvPay Y c j := by
  have h : ∃ i, IsRecv (recvCell c j) i := ⟨j, rfl⟩
  have h' : ¬ ∃ i, IsSend (recvCell c j) i := fun ⟨i, hi⟩ => recv_ne_send j i hi
  dsimp only [ringRd]; rw [if_neg (recv_ne_bar j), dif_neg h', dif_pos h, ← recvS_inj h.choose_spec]

omit [FloatOps F] [Named F] in
theorem rest_bar : bigSep ((ringRd (F := F) Y).duties (barCell c) 0 \ ∅) (fun d => (ringRd (F := F) Y).payload (barCell c) 0 d)
    = iprop(opened 0 c ∗ opened 1 c) := by
  rw [Finset.sdiff_empty, duties_bar, bigSep_univ_eq_bigSepL [true, false] (by decide) (by decide), bigSepL_cons_cons, bigSepL_singleton,
    payload_bar, payload_bar]
  rfl
omit [FloatOps F] [Named F] in
theorem rest_send : bigSep ((ringRd (F := F) Y).duties (sendCell c j) 0 \ ∅) (fun d => (ringRd (F := F) Y).payload (sendCell c j) 0 d) = sendPay Y c j := by
  rw [Finset.sdiff_empty, duties_send, bigSep_singleton, payload_send]
omit [FloatOps F] [Named F] in
theorem rest_recv : bigSep ((ringRd (F := F) Y).duties (recvCell c j) 0 \ ∅) (fun d => (ringRd (F := F) Y).payload (recvCell c j) 0 d) = recvPay Y c j := by
  rw [Finset.sdiff_empty, duties_recv, bigSep_singleton, payload_recv]

end Sched

/-! ## What is owed, and the levels -/

/-- What device `c` still owes when it has made `a` transfers: the later ones' credits. -/
def Owe (a : ℕ) (c : Dev nD) : CellTallies nD τ sig Unit :=
  ∑ j : Fin 12, if a ≤ j.val then tallyAt (recvCell (peer (lane j) c) j) () N else 0
def O₁ (c : Dev nD) : CellTallies nD τ sig Unit := Owe 0 c + tallyAt (barCell (nxt c)) () 1
def O₀ (c : Dev nD) : CellTallies nD τ sig Unit := O₁ c + tallyAt (barCell (prv c)) () 1

theorem Owe_peel (c : Dev nD) (j : Fin 12) : Owe j.val c = Owe (j.val + 1) c + tallyAt (recvCell (peer (lane j) c) j) () N := by
  unfold Owe
  rw [← Finset.add_sum_erase _ _ (Finset.mem_univ j), ← Finset.add_sum_erase (a := j) _ (fun i : Fin 12 => if j.val + 1 ≤ i.val then _ else _) (Finset.mem_univ j),
    if_pos le_rfl, if_neg (by omega), zero_add, add_comm]
  refine congrArg (· + _) (Finset.sum_congr rfl fun i hi => ?_)
  have hne : i.val ≠ j.val := fun h => (Finset.mem_erase.mp hi).1 (Fin.ext h)
  by_cases h : j.val ≤ i.val
  · rw [if_pos h, if_pos (by omega)]
  · rw [if_neg h, if_neg (by omega)]
theorem Owe_done (c : Dev nD) : Owe 12 c = 0 := by
  unfold Owe; exact Finset.sum_eq_zero fun i _ => if_neg (by have := i.isLt; omega)
theorem Owe_pos {a : ℕ} {c : Dev nD} {g : GSem nD τ sig} {u : Unit} (h : 0 < Owe a c g u) :
    ∃ j : Fin 12, a ≤ j.val ∧ g = recvCell (peer (lane j) c) j := by
  by_contra hn
  have h0 : Owe a c g u = 0 := by
    unfold Owe
    rw [Finset.sum_apply, Finsupp.finset_sum_apply]
    refine Finset.sum_eq_zero fun j _ => ?_
    by_cases hj : a ≤ j.val
    · rw [if_pos hj, tallyAt_apply, if_neg fun h' => hn ⟨j, hj, h'.1⟩]
    · rw [if_neg hj]; rfl
  rw [h0] at h; exact Nat.lt_irrefl 0 h

def L (g : GSem nD τ sig) : Finset Unit := if g.1.2 = .tc then {()} else ∅
/-- Barrier cells at 1, the receive cells of hop `s` at `s + 2`, the rest at 0. -/
def lv (g : GSem nD τ sig) (_ : Unit) : ℕ :=
  if g.2 = .reg barS then 1 else if h : ∃ j, IsRecv g j then 2 + hop h.choose else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 12) : lv (recvCell c j) () = 2 + hop j := by
  have h : ∃ i, IsRecv (recvCell c j) i := ⟨j, rfl⟩
  unfold lv; rw [if_neg (recv_ne_bar j), dif_pos h, ← recvS_inj h.choose_spec]

omit [FloatOps F] [Named F] in
/-- A wait below everything still owed is allowed. -/
theorem mayWait_cut (c : Dev nD) (sm : SemLoc sig) (O : CellTallies nD τ sig Unit) (b : ℕ) (hb : lv ((c : Thread nD τ), sm) () ≤ b)
    (hO : ∀ (g : GSem nD τ sig) (u : Unit), 0 < O g u → g.1.2 = .tc ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

omit [FloatOps F] [Named F] in
theorem mayWait_Owe (c : Dev nD) (sm : SemLoc sig) (a : ℕ) (hb : a < 12 → lv ((c : Thread nD τ), sm) () < 2 + a / 4) :
    (levAts L lv : sProp 𝕄) ⊢ MayWait (c : Thread nD τ) sm () (Owe a c) := by
  by_cases ha : a < 12
  · refine mayWait_cut c sm _ _ le_rfl fun g u hg => ?_
    obtain ⟨j, hj, rfl⟩ := Owe_pos hg
    exact ⟨rfl, by rw [lv_recv]; exact lt_of_lt_of_le (hb ha) (Nat.add_le_add_left (Nat.div_le_div_right hj) 2)⟩
  · rw [show Owe a c = 0 from Finset.sum_eq_zero fun i _ => if_neg (by have := i.isLt; omega), MayWait_zero]
    iintro -; iempintro

theorem O₀_pos {c : Dev nD} {g : GSem nD τ sig} {u : Unit} (h : 0 < O₀ c g u) : g.1.2 = .tc ∧ 0 < lv g () := by
  by_cases h1 : g = barCell (prv c)
  · subst h1; exact ⟨rfl, by rw [lv_bar]; decide⟩
  by_cases h2 : g = barCell (nxt c)
  · subst h2; exact ⟨rfl, by rw [lv_bar]; decide⟩
  have h3 : 0 < Owe 0 c g u := by
    simpa only [O₀, O₁, Pi.add_apply, Finsupp.add_apply, tallyAt_apply, h1, h2, false_and, if_false, Nat.add_zero] using h
  obtain ⟨j, -, hj⟩ := Owe_pos h3
  rw [hj]
  exact ⟨rfl, by rw [lv_recv]; omega⟩

/-! ## The shared records and the state of the transfers -/

/-- All the cells' invariants, that each is at its first round, and the levels. -/
def records (K : Dev nD × Fin 33 → ℕ) : sProp 𝕄 :=
  iprop((bigSep Finset.univ fun ck : Dev nD × Fin 33 => cellInv ER (ringRd Y) (K ck) (kcell ck))
    ∗ (bigSep Finset.univ fun ck : Dev nD × Fin 33 => reached ER (kcell ck) 0) ∗ levAts L lv)
omit [FloatOps F] [Named F] in
instance records_persistent (K : Dev nD × Fin 33 → ℕ) : BI.Persistent (records (F := F) Y K) := by unfold records; infer_instance
variable (K : Dev nD × Fin 33 → ℕ)
omit [FloatOps F] [Named F] in
theorem inv_at (ck : Dev nD × Fin 33) {g : GSem nD τ sig} (h : kcell ck = g) : records (F := F) Y K ⊢ (cellInv ER (ringRd Y) (K ck) g : sProp 𝕄) := by
  subst h; unfold records
  exact sep_elim_left.trans (bigSep_elim (Finset.mem_univ ck))
omit [FloatOps F] [Named F] in
theorem reached_at (ck : Dev nD × Fin 33) {g : GSem nD τ sig} (h : kcell ck = g) : records (F := F) Y K ⊢ (reached ER g 0 : sProp 𝕄) := by
  subst h; unfold records
  exact sep_elim_right.trans (sep_elim_left.trans (bigSep_elim (Finset.mem_univ ck)))
omit [FloatOps F] [Named F] in
theorem lev_at : records (F := F) Y K ⊢ (levAts L lv : sProp 𝕄) := by
  unfold records; exact sep_elim_right.trans sep_elim_right

/-- Transfer `j` from its sender's side, `a` transfers made, `d` of them waited for. -/
def sendSt (a d : ℕ) (c : Dev nD) (j : Fin 12) : sProp 𝕄 :=
  if j.val < d then atPos ER (sendCell c j) 1 ∅ 0
  else if j.val < a then iprop(atPos ER (sendCell c j) 0 ∅ 0 ∗ cred (tallyAt (sendCell c j) () N))
  else iprop(atPos ER (sendCell c j) 0 ∅ 0 ∗ dutyTok ER (sendCell c j) 0 false ∗ dutyTok ER (recvCell (peer (lane j) c) j) 0 false
    ∗ blank (peer (lane j) c) (slotL (lane j) (hop j + 1) (hop1_lt j)))
/-- Transfer `j` from its receiver's side, `b` landings waited for. -/
def recvSt (b : ℕ) (c : Dev nD) (j : Fin 12) : sProp 𝕄 :=
  if j.val < b then atPos ER (recvCell c j) 1 ∅ 0 else iprop(atPos ER (recvCell c j) 0 ∅ 0 ∗ cred (tallyAt (recvCell c j) () N))
/-- `a` transfers made, `b` landings waited for, `d` departures waited for. -/
def St (a b d : ℕ) (c : Dev nD) : sProp 𝕄 :=
  iprop((∃ W, owes (c : Thread nD τ) (Owe a c) W) ∗ bigSep Finset.univ (sendSt a d c) ∗ bigSep Finset.univ (recvSt b c))

omit [FloatOps F] [Named F] in
theorem bigSep_at (j : Fin 12) (Φ : Fin 12 → sProp 𝕄) : bigSep Finset.univ Φ = iprop(Φ j ∗ bigSep (Finset.univ.erase j) Φ) := by
  rw [BI.bigSep_erase (Finset.mem_univ j)]; rfl
omit [FloatOps F] [Named F] in
theorem bigSep_step {Φ Ψ : Fin 12 → sProp 𝕄} (j : Fin 12) (h : ∀ i, i ≠ j → Φ i = Ψ i) :
    bigSep Finset.univ Φ ⊢ (iprop(Φ j ∗ (Ψ j -∗ bigSep Finset.univ Ψ)) : sProp 𝕄) := by
  rw [bigSep_at j Φ, bigSep_at j Ψ, bigSep_congr fun i hi => h i (Finset.mem_erase.mp hi).1]
  iintro ⟨H, Hr⟩
  isplitl [H]; · iexact H
  iintro H
  isplitl [H]; · iexact H
  iexact Hr

/-- Transfer `j`: the source's left half and the neighbour's landing slot go, the departure's credit comes. -/
theorem step_send (c : Dev nD) (j : Fin 12) {α : Type} {Q : α → sProp 𝕄} {k : PUnit → Prog (TpuEff nD τ sig (Elt F) Λ₀ .tc) α} {n : Dev nD} {src dst : Memref sig .tc .vmem S512x512 .bf16} {sS sR : DmaSem sig}
    (hn : n = peer (lane j) c) (hs : src = slotL (lane j) (hop j) (hop_lt j)) (hd : dst = slotL (lane j) (hop j + 1) (hop1_lt j))
    (hS : sS = sendS j) (hR : sR = recvS j)
    {hsc : (dst : Memref sig (Dev.tc n : Thread nD τ).2.kind .vmem S512x512 .bf16).view.ref.isScScratch = false}
    {hsrc : src.view.WordExact} {hdst : dst.view.WordExact}
    {hsem : DmaTarget.Typed .vmem (.dma sR) (.remote (Dev.tc n : Thread nD τ) dst (.dma sS) hsc)} {b : ℕ} :
    iprop(records Y K ∗ St j.val b 0 c ∗ holds c src fullShare.left (at_ Y (lane j) (hop j) c))
      ⊢ iprop((St (j.val + 1) b 0 c -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma sS) hsc) (.dma sR) hsrc hdst hsem) k) Q) := by
  subst hn hs hd hS hR
  iintro ⟨#HR, HSt, Hx⟩ Hk
  unfold St
  icases HSt with ⟨⟨%W, HO⟩, HS, HV⟩
  have hst : ∀ i, i ≠ j → sendSt (F := F) j.val 0 c i = sendSt (F := F) (j.val + 1) 0 c i := fun i hi => by
    have hne : i.val ≠ j.val := fun h => hi (Fin.ext h)
    unfold sendSt
    by_cases h : i.val < j.val
    · rw [if_neg (Nat.not_lt_zero _), if_pos h, if_neg (Nat.not_lt_zero _), if_pos (by omega)]
    · rw [if_neg (Nat.not_lt_zero _), if_neg h, if_neg (Nat.not_lt_zero _), if_neg (by omega)]
  ihave HS' := (bigSep_step (Φ := sendSt j.val 0 c) (Ψ := sendSt (j.val + 1) 0 c) j hst) $$ HS
  icases HS' with ⟨Hj, HS⟩
  have hat : sendSt (F := F) j.val 0 c j = iprop(atPos ER (sendCell c j) 0 ∅ 0 ∗ dutyTok ER (sendCell c j) 0 false ∗ dutyTok ER (recvCell (peer (lane j) c) j) 0 false
    ∗ blank (peer (lane j) c) (slotL (lane j) (hop j + 1) (hop1_lt j))) := by unfold sendSt; rw [if_neg (Nat.not_lt_zero _), if_neg (Nat.lt_irrefl _)]
  ihave Hj' := (Entails.of_eq hat) $$ Hj
  unfold holds blank
  icases Hj' with ⟨Hat, Ht1, Ht2, ⟨%fd, Hd⟩⟩
  icases Hx with ⟨%fs, %hfs, Hx⟩
  have hd₁ : false ∈ (ringRd (F := F) Y).duties (sendCell c j) 0 := by rw [duties_send]; exact Finset.mem_singleton_self _
  have hd₂ : false ∈ (ringRd (F := F) Y).duties (recvCell (peer (lane j) c) j) 0 := by rw [duties_recv]; exact Finset.mem_singleton_self _
  have hNN : (slotL (lane j) (hop j + 1) (hop1_lt j)).view.amount (.dma (recvS j)) = N := N_slot _ _ _
  have hp₁ : ((slotL (lane j) (hop j) (hop_lt j)).view.loc (c : Thread nD τ) ↦[(slotL (lane j) (hop j) (hop_lt j)).view.set]{fullShare.left} fs : sProp 𝕄)
      ⊢ (ringRd (F := F) Y).payload (sendCell c j) 0 false := by
    rw [payload_send]; unfold sendPay holds; iintro H; iexists fs; isplitr; · (ipureintro; exact hfs)
    iexact H
  have hp₂ : ((slotL (lane j) (hop j + 1) (hop1_lt j)).view.loc (peer (lane j) c : Thread nD τ) ↦[(slotL (lane j) (hop j + 1) (hop1_lt j)).view.set]{fullShare}
        ((slotL (lane j) (hop j + 1) (hop1_lt j)).view.write (Elt F) fd ((slotL (lane j) (hop j) (hop_lt j)).view.read (Elt F) fs) Finset.univ) : sProp 𝕄)
      ⊢ (ringRd (F := F) Y).payload (recvCell (peer (lane j) c) j) 0 false := by
    rw [payload_recv]; unfold recvPay holds; iintro H; iexists _; isplitr
    swap; · iexact H
    ipureintro; rw [View.read_write_univ, hfs]; unfold at_; rw [org_peer]
  iapply (Rounds.wp_send_pointsTo 𝒱₀ ER (ringRd Y) (c : Thread nD τ) none (κ₁ := K (c, kS j)) (κ₂ := K (peer (lane j) c, kR j))
    (r₁ := 0) (r₂ := 0) (d₁ := false) (d₂ := false) (fd := fd) (fs := fs)
    hd₁ hd₂ () () N hNN (amount_send Y c j false) (amount_recv Y (peer (lane j) c) j false) (Owe (j.val + 1) c) (Owe_peel c j) (W := W) hp₁ hp₂) $$ [HO Hx Hd Ht1 Ht2]
  · isplitr; · iapply (inv_at Y K (c, kS j) (kcell_S c j)); iexact HR
    isplitr; · iapply (inv_at Y K (peer (lane j) c, kR j) (kcell_R _ j)); iexact HR
    isplitl [Hx]; · iexact Hx
    isplitl [Hd]; · iexact Hd
    isplitl [HO]; · iexact HO
    isplitl [Ht1]; · iexact Ht1
    isplitr; · iapply (reached_at Y K (c, kS j) (kcell_S c j)); iexact HR
    isplitl [Ht2]; · iexact Ht2
    iapply (reached_at Y K (peer (lane j) c, kR j) (kcell_R _ j)); iexact HR
  iintro ⟨Hc, HO⟩
  iapply Hk
  isplitl [HO]; · iexists W; iexact HO
  isplitl [HS Hat Hc]
  · iapply HS
    unfold sendSt; rw [if_neg (Nat.not_lt_zero _), if_pos (Nat.lt_succ_self _)]
    isplitl [Hat]; · iexact Hat
    iexact Hc
  iexact HV

/-- The wait for landing `j`, made when `a` transfers are: the landed slot comes whole. -/
theorem step_recv (c : Dev nD) (j : Fin 12) {α : Type} {Q : α → sProp 𝕄} {k : PUnit → Prog (TpuEff nD τ sig (Elt F) Λ₀ .tc) α} {a : ℕ} (ha : a < 12 → 4 + j.val ≤ a) {src dst : Memref sig .tc .vmem S512x512 .bf16} {sR : DmaSem sig}
    (hR : sR = recvS j) (hN : dst.view.dmaCredit = N) {hsrc : src.view.WordExact} {hdst : dst.view.WordExact} :
    iprop(records Y K ∗ St a j.val 0 c)
      ⊢ iprop(((St a (j.val + 1) 0 c ∗ holds c (slotL (lane j) (hop j + 1) (hop1_lt j)) fullShare (at_ Y (lane j) (hop j + 1) c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hR
  iintro ⟨#HR, HSt⟩ Hk
  unfold St
  icases HSt with ⟨⟨%W, HO⟩, HS, HV⟩
  have hst : ∀ i, i ≠ j → recvSt (F := F) j.val c i = recvSt (F := F) (j.val + 1) c i := fun i hi => by
    have hne : i.val ≠ j.val := fun h => hi (Fin.ext h)
    unfold recvSt
    by_cases h : i.val < j.val
    · rw [if_pos h, if_pos (by omega)]
    · rw [if_neg h, if_neg (by omega)]
  ihave HV' := (bigSep_step (Φ := recvSt j.val c) (Ψ := recvSt (j.val + 1) c) j hst) $$ HV
  icases HV' with ⟨Hj, HV⟩
  have hat : recvSt (F := F) j.val c j = iprop(atPos ER (recvCell c j) 0 ∅ 0 ∗ cred (tallyAt (recvCell c j) () N)) := by
    unfold recvSt; rw [if_neg (Nat.lt_irrefl _)]
  ihave Hj' := (Entails.of_eq hat) $$ Hj
  icases Hj' with ⟨Hat, Hc⟩
  have hw : ∀ P : PUnit → sProp 𝕄, wpE' (defs₀ (F := F)) 𝒱₀ (c : Thread nD τ) none .empty Set.univ (.waitDma2 (recvS j) src dst hsrc hdst) P
      = waitSpec (c : Thread nD τ) Set.univ (.dma (recvS j)) N P := fun P => by
    rw [← hN]; exact wpE_waitDma2_eq 𝒱₀ (c : Thread nD τ) none Set.univ P
  have he : 0 + N = (ringRd (F := F) Y).expect (recvCell c j) 0 := by rw [Nat.zero_add, expect_recv]
  iapply (Rounds.wp_wait_rest_token 𝒱₀ ER (ringRd Y) (c : Thread nD τ) none (κ := K (c, kR j)) (k' := N)
      hw (Set.mem_univ _) () (O := Owe a c) (W := W) (R := 0) (m := 0) (T := ∅) he) $$ [HO Hat Hc]
  · isplitr; · iapply (inv_at Y K (c, kR j) (kcell_R c j)); iexact HR
    isplitl [Hc]; · iexact Hc
    isplitl [HO]; · iexact HO
    isplitr
    · iapply (mayWait_Owe c _ a (fun h => by rw [lv_recv]; have := ha h; unfold hop; omega)); iapply (lev_at Y K); iexact HR
    iexact Hat
  iintro ⟨HO, Hat, -, Hpay⟩
  ihave Hp := (Entails.of_eq (rest_recv Y c j)) $$ Hpay
  iapply Hk
  isplitr [Hp]
  · isplitl [HO]; · iexists _; iexact HO
    isplitl [HS]; · iexact HS
    iapply HV
    unfold recvSt; rw [if_pos (Nat.lt_succ_self _)]
    iexact Hat
  unfold recvPay; iexact Hp

/-- The wait for departure `j`, all transfers made: the lent half comes back. -/
theorem step_depart (c : Dev nD) (j : Fin 12) {α : Type} {Q : α → sProp 𝕄} {k : PUnit → Prog (TpuEff nD τ sig (Elt F) Λ₀ .tc) α} {b : ℕ} {src dst : Memref sig .tc .vmem S512x512 .bf16} {sS : DmaSem sig}
    (hS : sS = sendS j) (hN : dst.view.dmaCredit = N) {hsrc : src.view.WordExact} {hdst : dst.view.WordExact} :
    iprop(records Y K ∗ St 12 b j.val c)
      ⊢ iprop(((St 12 b (j.val + 1) c ∗ holds c (slotL (lane j) (hop j) (hop_lt j)) fullShare.left (at_ Y (lane j) (hop j) c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hS
  iintro ⟨#HR, HSt⟩ Hk
  unfold St
  icases HSt with ⟨⟨%W, HO⟩, HS, HV⟩
  have hst : ∀ i, i ≠ j → sendSt (F := F) 12 j.val c i = sendSt (F := F) 12 (j.val + 1) c i := fun i hi => by
    have hne : i.val ≠ j.val := fun h => hi (Fin.ext h)
    unfold sendSt
    by_cases h : i.val < j.val
    · rw [if_pos h, if_pos (by omega)]
    · rw [if_neg h, if_neg (show ¬ i.val < j.val + 1 by omega)]
  ihave HS' := (bigSep_step (Φ := sendSt 12 j.val c) (Ψ := sendSt 12 (j.val + 1) c) j hst) $$ HS
  icases HS' with ⟨Hj, HS⟩
  have hat : sendSt (F := F) 12 j.val c j = iprop(atPos ER (sendCell c j) 0 ∅ 0 ∗ cred (tallyAt (sendCell c j) () N)) := by
    unfold sendSt; rw [if_neg (Nat.lt_irrefl _), if_pos j.isLt]
  ihave Hj' := (Entails.of_eq hat) $$ Hj
  icases Hj' with ⟨Hat, Hc⟩
  have hw : ∀ P : PUnit → sProp 𝕄, wpE' (defs₀ (F := F)) 𝒱₀ (c : Thread nD τ) none .empty Set.univ (.waitDma2 (sendS j) src dst hsrc hdst) P
      = waitSpec (c : Thread nD τ) Set.univ (.dma (sendS j)) N P := fun P => by
    rw [← hN]; exact wpE_waitDma2_eq 𝒱₀ (c : Thread nD τ) none Set.univ P
  have he : 0 + N = (ringRd (F := F) Y).expect (sendCell c j) 0 := by rw [Nat.zero_add, expect_send]
  iapply (Rounds.wp_wait_rest_token 𝒱₀ ER (ringRd Y) (c : Thread nD τ) none (κ := K (c, kS j)) (k' := N)
      hw (Set.mem_univ _) () (O := Owe 12 c) (W := W) (R := 0) (m := 0) (T := ∅) he) $$ [HO Hat Hc]
  · isplitr; · iapply (inv_at Y K (c, kS j) (kcell_S c j)); iexact HR
    isplitl [Hc]; · iexact Hc
    isplitl [HO]; · iexact HO
    isplitr
    · iapply (mayWait_Owe c _ 12 (fun h => absurd h (by decide))); iapply (lev_at Y K); iexact HR
    iexact Hat
  iintro ⟨HO, Hat, -, Hpay⟩
  ihave Hp := (Entails.of_eq (rest_send Y c j)) $$ Hpay
  iapply Hk
  isplitr [Hp]
  · isplitl [HO]; · iexists _; iexact HO
    isplitl [HS Hat]
    · iapply HS
      unfold sendSt; rw [if_pos (Nat.lt_succ_self _)]
      iexact Hat
    iexact HV
  unfold sendPay; iexact Hp

end Cert.Ring

end
-- ==== Proof.Slots.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Protocol
public import Idealize.ShloMosaic.Lib.ValueLayout
public import Idealize.ShloMosaic.Lib.Ring

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ

open Idealize.ShloMosaic.ValueIdx

/-! # Slots of the ring buffers: the matrices they are cut into, and the boxes the body reads them by -/

abbrev rectS (s p : ℕ) (hs : s < 4) (hp : p < 2) : Rect S4x2x512x512 :=
  Rect.unit (s := S4x2x512x512) ![s, p, 0, 0] S1x1x512x512.size (slot_inb s p hs hp)
theorem slot0_inb : ∀ a, (![0, 0, 0, 0] : Fin 4 → ℕ) a + (![1, 2, 512, 512] : Fin 4 → ℕ) a ≤ S4x2x512x512.size a := by decide
/-- Slot 0, both its matrices. -/
abbrev slot0 : Rect S4x2x512x512 := Rect.unit (s := S4x2x512x512) ![0, 0, 0, 0] ![1, 2, 512, 512] slot0_inb

theorem slot_set (B : Memref sig .tc .vmem S4x2x512x512 .bf16) (s p : ℕ) (hs : s < 4) (hp : p < 2) :
    (slotM B s p hs hp).view.set = B.view.setOn (rectS s p hs hp).set := by
  show ((B.view.slice _).reshape _ _).set = _
  rw [View.set_reshape, View.set_slice]; rfl

/-- A matrix laid over a ring buffer: every slot holds it. -/
def spread (X : Vec F S512x512 .bf16) : Vec F S4x2x512x512 .bf16 := fun i => X (ix2 (i 2) (i 3))

omit [FloatOps F] [Named F] in
theorem read_spread_r (s p : ℕ) (hs : s < 4) (hp : p < 2) (X : Vec F S512x512 .bf16) : (slotM rM s p hs hp).view.read (Elt F) (spread X) = X := by
  funext x
  rw [eq_ix2 x]
  show spread X ((rectS s p hs hp).emb (Shape.reshapeEquiv _ (ix2 (x 0) (x 1)))) = _
  have h := reshapeEquiv_ix2_11ab (a := 512) (b := 512) (by decide) (x 0) (x 1)
  unfold spread
  refine congrArg X ?_
  refine (congrArg (fun z : S4x2x512x512.Idx => ix2 (z 2) (z 3)) (congrArg (rectS s p hs hp).emb h)).trans ?_
  funext a; fin_cases a
  · exact Fin.ext (by show 0 + 1 * (x 0).val = (x 0).val; omega)
  · exact Fin.ext (by show 0 + 1 * (x 1).val = (x 1).val; omega)
omit [FloatOps F] [Named F] in
theorem read_spread_l (s p : ℕ) (hs : s < 4) (hp : p < 2) (X : Vec F S512x512 .bf16) : (slotM lM s p hs hp).view.read (Elt F) (spread X) = X :=
  read_spread_r s p hs hp X

omit [FloatOps F] [Named F] in
theorem holds_open {c : Dev nD} {m : Memref sig .tc .vmem S512x512 .bf16} {q} {X : Vec F S512x512 .bf16} (g : Buf (Elt F) (m.view.loc (c : Thread nD τ)))
    (hg : m.view.read (Elt F) g = X) : holds c m q X ⊢ ((m.view.loc (c : Thread nD τ) ↦[m.view.set]{q} g) : sProp 𝕄) := by
  unfold holds; iintro ⟨%f, %hf, H⟩
  ihave H := (Entails.of_eq (pointsTo_congr (f := f) (g := g) (eq_on_of_read_eq (m := m) (hf.trans hg.symm)))) $$ H
  iexact H
omit [FloatOps F] [Named F] in
theorem holds_close {c : Dev nD} {m : Memref sig .tc .vmem S512x512 .bf16} {q} {X : Vec F S512x512 .bf16} (g : Buf (Elt F) (m.view.loc (c : Thread nD τ)))
    (hg : m.view.read (Elt F) g = X) : ((m.view.loc (c : Thread nD τ) ↦[m.view.set]{q} g) : sProp 𝕄) ⊢ holds c m q X := by
  unfold holds; iintro H; iexists g; isplitr; · (ipureintro; exact hg)
  iexact H

omit [FloatOps F] [Named F] in
/-- A slot held by its matrix is its box of the ring buffer at that matrix. -/
theorem holds_r (c : Dev nD) (s p : ℕ) (hs : s < 4) (hp : p < 2) (q) (X : Vec F S512x512 .bf16) :
    holds c (slotM rM s p hs hp) q X ⊢ ((rM.view.loc (c : Thread nD τ) ↦[rM.view.setOn (rectS s p hs hp).set]{q} (spread X)) : sProp 𝕄) := by
  rw [← slot_set rM s p hs hp]
  exact holds_open (m := slotM rM s p hs hp) (spread X) (read_spread_r s p hs hp X)
omit [FloatOps F] [Named F] in
theorem holds_l (c : Dev nD) (s p : ℕ) (hs : s < 4) (hp : p < 2) (q) (X : Vec F S512x512 .bf16) :
    holds c (slotM lM s p hs hp) q X ⊢ ((lM.view.loc (c : Thread nD τ) ↦[lM.view.setOn (rectS s p hs hp).set]{q} (spread X)) : sProp 𝕄) := by
  rw [← slot_set lM s p hs hp]
  exact holds_open (m := slotM lM s p hs hp) (spread X) (read_spread_l s p hs hp X)
omit [FloatOps F] [Named F] in
theorem r_holds (c : Dev nD) (s p : ℕ) (hs : s < 4) (hp : p < 2) (q) (X : Vec F S512x512 .bf16) :
    ((rM.view.loc (c : Thread nD τ) ↦[rM.view.setOn (rectS s p hs hp).set]{q} (spread X)) : sProp 𝕄) ⊢ holds c (slotM rM s p hs hp) q X := by
  rw [← slot_set rM s p hs hp]
  exact holds_close (m := slotM rM s p hs hp) (spread X) (read_spread_r s p hs hp X)
omit [FloatOps F] [Named F] in
theorem l_holds (c : Dev nD) (s p : ℕ) (hs : s < 4) (hp : p < 2) (q) (X : Vec F S512x512 .bf16) :
    ((lM.view.loc (c : Thread nD τ) ↦[lM.view.setOn (rectS s p hs hp).set]{q} (spread X)) : sProp 𝕄) ⊢ holds c (slotM lM s p hs hp) q X := by
  rw [← slot_set lM s p hs hp]
  exact holds_close (m := slotM lM s p hs hp) (spread X) (read_spread_l s p hs hp X)

/-! ## Slot 0 is its two matrices, a ring buffer its eight -/

theorem mem_rectS (s p : ℕ) (hs : s < 4) (hp : p < 2) (i : S4x2x512x512.Idx) : i ∈ (rectS s p hs hp).set ↔ (i 0).val = s ∧ (i 1).val = p := by
  rw [Rect.mem_set_unit]
  constructor
  · intro h
    have h0 := h 0; have h1 := h 1
    change s ≤ (i 0).val ∧ (i 0).val < s + 1 at h0
    change p ≤ (i 1).val ∧ (i 1).val < p + 1 at h1
    omega
  · rintro ⟨h0, h1⟩ a
    fin_cases a
    · show s ≤ (i 0).val ∧ (i 0).val < s + 1; omega
    · show p ≤ (i 1).val ∧ (i 1).val < p + 1; omega
    · exact ⟨Nat.zero_le _, by have := (i 2).isLt; show (i 2).val < 0 + 512; have h : S4x2x512x512.size 2 = 512 := rfl; omega⟩
    · exact ⟨Nat.zero_le _, by have := (i 3).isLt; show (i 3).val < 0 + 512; have h : S4x2x512x512.size 3 = 512 := rfl; omega⟩
theorem mem_slot0 (i : S4x2x512x512.Idx) : i ∈ slot0.set ↔ (i 0).val = 0 := by
  rw [Rect.mem_set_unit]
  constructor
  · intro h
    have h0 := h 0
    change 0 ≤ (i 0).val ∧ (i 0).val < 0 + 1 at h0
    omega
  · rintro h0 a
    fin_cases a
    · show 0 ≤ (i 0).val ∧ (i 0).val < 0 + 1; omega
    · exact ⟨Nat.zero_le _, by have := (i 1).isLt; show (i 1).val < 0 + 2; have h : S4x2x512x512.size 1 = 2 := rfl; omega⟩
    · exact ⟨Nat.zero_le _, by have := (i 2).isLt; show (i 2).val < 0 + 512; have h : S4x2x512x512.size 2 = 512 := rfl; omega⟩
    · exact ⟨Nat.zero_le _, by have := (i 3).isLt; show (i 3).val < 0 + 512; have h : S4x2x512x512.size 3 = 512 := rfl; omega⟩
theorem slot0_union : slot0.set = (rectS 0 0 (by decide) (by decide)).set ∪ (rectS 0 1 (by decide) (by decide)).set := by
  ext i
  rw [Finset.mem_union, mem_rectS, mem_rectS, mem_slot0]
  have := (i 1).isLt
  have h : S4x2x512x512.size 1 = 2 := rfl
  omega
theorem rectS_disj (s p s' p' : ℕ) (hs : s < 4) (hp : p < 2) (hs' : s' < 4) (hp' : p' < 2) (h : (s, p) ≠ (s', p')) :
    Disjoint (rectS s p hs hp).set (rectS s' p' hs' hp').set := by
  rw [Finset.disjoint_left]
  intro i h1 h2
  rw [mem_rectS] at h1 h2
  exact h (Prod.ext (h1.1.symm.trans h2.1) (h1.2.symm.trans h2.2))

theorem setOn_disj (B : Memref sig .tc .vmem S4x2x512x512 .bf16) {I J : Finset S4x2x512x512.Idx} (h : Disjoint I J) : Disjoint (B.view.setOn I) (B.view.setOn J) :=
  (Finset.disjoint_map _).mpr h

abbrev boxOf (B : Memref sig .tc .vmem S4x2x512x512 .bf16) (sp : Fin 4 × Fin 2) : Finset B.view.ty.Idx :=
  B.view.setOn (rectS sp.1.val sp.2.val sp.1.isLt sp.2.isLt).set
theorem slot0_setOn (B : Memref sig .tc .vmem S4x2x512x512 .bf16) : B.view.setOn slot0.set = boxOf B (0, 0) ∪ boxOf B (0, 1) :=
  (congrArg B.view.setOn slot0_union).trans (Finset.map_union _ _)
theorem boxOf_dis (B : Memref sig .tc .vmem S4x2x512x512 .bf16) (b b' : Fin 4 × Fin 2) (h : b ≠ b') : Disjoint (boxOf B b) (boxOf B b') := by
  refine setOn_disj B (rectS_disj _ _ _ _ _ _ _ _ fun he => h ?_)
  rw [Prod.mk.injEq] at he
  exact Prod.ext (Fin.ext he.1) (Fin.ext he.2)

omit [FloatOps F] [Named F] in
theorem blank_box (c : Dev nD) (B : Memref sig .tc .vmem S4x2x512x512 .bf16) (s p : ℕ) (hs : s < 4) (hp : p < 2) :
    (blank c (slotM B s p hs hp) : sProp 𝕄) = iprop(∃ f : Buf (Elt F) (B.view.loc (c : Thread nD τ)), B.view.loc (c : Thread nD τ) ↦[B.view.setOn (rectS s p hs hp).set]{fullShare} f) := by
  unfold blank; rw [slot_set]

omit [FloatOps F] [Named F] in
/-- The two matrices of slot 0 held at anything, as one box. -/
theorem slot0_of_blanks (c : Dev nD) (B : Memref sig .tc .vmem S4x2x512x512 .bf16) :
    (iprop(blank c (slotM B 0 0 (by decide) (by decide)) ∗ blank c (slotM B 0 1 (by decide) (by decide))) : sProp 𝕄)
      ⊢ iprop(∃ f : Buf (Elt F) (B.view.loc (c : Thread nD τ)), B.view.loc (c : Thread nD τ) ↦[B.view.setOn slot0.set]{fullShare} f) := by
  rw [blank_box, blank_box, slot0_setOn]
  iintro ⟨⟨%f, Hf⟩, ⟨%g, Hg⟩⟩
  have hd := boxOf_dis B (0, 0) (0, 1) (by decide)
  ihave H := (pointsTo_join (ℓ := B.view.loc (c : Thread nD τ)) (I := boxOf B (0, 0)) (J := boxOf B (0, 1)) (f := f) (g := g) hd) $$ [Hf Hg]
  · isplitl [Hf]; · iexact Hf
    iexact Hg
  iexists _; iexact H

omit [FloatOps F] [Named F] in
theorem box_close {c : Dev nD} {B : Memref sig .tc .vmem S4x2x512x512 .bf16} {s p : ℕ} {hs : s < 4} {hp : p < 2} {q} {X : Vec F S512x512 .bf16}
    (g : Buf (Elt F) (B.view.loc (c : Thread nD τ))) (hg : (slotM B s p hs hp).view.read (Elt F) g = X) :
    ((B.view.loc (c : Thread nD τ) ↦[B.view.setOn (rectS s p hs hp).set]{q} g) : sProp 𝕄) ⊢ holds c (slotM B s p hs hp) q X := by
  rw [← slot_set B s p hs hp]
  exact holds_close (m := slotM B s p hs hp) g hg

omit [FloatOps F] [Named F] in
/-- One box at contents that read right is the two matrices. -/
theorem slot0_to_holds (c : Dev nD) (B : Memref sig .tc .vmem S4x2x512x512 .bf16) (f : Buf (Elt F) (B.view.loc (c : Thread nD τ))) (X0 X1 : Vec F S512x512 .bf16)
    (h0 : (slotM B 0 0 (by decide) (by decide)).view.read (Elt F) f = X0) (h1 : (slotM B 0 1 (by decide) (by decide)).view.read (Elt F) f = X1) :
    ((B.view.loc (c : Thread nD τ) ↦[B.view.setOn slot0.set]{fullShare} f) : sProp 𝕄)
      ⊢ iprop(holds c (slotM B 0 0 (by decide) (by decide)) fullShare X0 ∗ holds c (slotM B 0 1 (by decide) (by decide)) fullShare X1) := by
  rw [slot0_setOn]
  refine (pointsTo_union (boxOf_dis B (0, 0) (0, 1) (by decide))).1.trans ?_
  exact BIClass.sep_mono (box_close (s := 0) (p := 0) f h0) (box_close (s := 0) (p := 1) f h1)

abbrev slot8 (B : Memref sig .tc .vmem S4x2x512x512 .bf16) (sp : Fin 4 × Fin 2) : Memref sig .tc .vmem S512x512 .bf16 :=
  slotM B sp.1.val sp.2.val sp.1.isLt sp.2.isLt
theorem box8_cover_r : Finset.univ.biUnion (boxOf rM) = Finset.univ := by
  refine Finset.eq_univ_iff_forall.mpr fun i => Finset.mem_biUnion.mpr ⟨((i : S4x2x512x512.Idx) 0, (i : S4x2x512x512.Idx) 1), Finset.mem_univ _, ?_⟩
  exact (View.mem_setOn (v := rM.view) (x := i)).mpr ((mem_rectS _ _ _ _ i).mpr ⟨rfl, rfl⟩)
theorem box8_cover_l : Finset.univ.biUnion (boxOf lM) = Finset.univ := by
  refine Finset.eq_univ_iff_forall.mpr fun i => Finset.mem_biUnion.mpr ⟨((i : S4x2x512x512.Idx) 0, (i : S4x2x512x512.Idx) 1), Finset.mem_univ _, ?_⟩
  exact (View.mem_setOn (v := lM.view) (x := i)).mpr ((mem_rectS _ _ _ _ i).mpr ⟨rfl, rfl⟩)

def blanks8 (c : Dev nD) (B : Memref sig .tc .vmem S4x2x512x512 .bf16) : sProp 𝕄 := bigSep Finset.univ fun b => blank c (slot8 B b)
omit [FloatOps F] [Named F] in
theorem blanks8_box (c : Dev nD) (B : Memref sig .tc .vmem S4x2x512x512 .bf16) :
    (blanks8 c B : sProp 𝕄) = bigSep Finset.univ fun b => iprop(∃ f : Buf (Elt F) (B.view.loc (c : Thread nD τ)), B.view.loc (c : Thread nD τ) ↦[boxOf B b]{fullShare} f) :=
  bigSep_congr fun b _ => blank_box c B _ _ _ _
omit [FloatOps F] [Named F] in
theorem some_contents (c : Dev nD) (B : Memref sig .tc .vmem S4x2x512x512 .bf16) (I : Finset B.view.ty.Idx) (f : Buf (Elt F) (B.view.loc (c : Thread nD τ))) :
    (B.view.loc (c : Thread nD τ) ↦[I]{fullShare} f : sProp 𝕄) ⊢ iprop(∃ f : Buf (Elt F) (B.view.loc (c : Thread nD τ)), B.view.loc (c : Thread nD τ) ↦[I]{fullShare} f) := by
  iintro H; iexists f; iexact H
omit [FloatOps F] [Named F] in
theorem whole_to (c : Dev nD) (B : Memref sig .tc .vmem S4x2x512x512 .bf16) (hc : Finset.univ.biUnion (boxOf B) = Finset.univ) :
    (iprop(∃ f : Buf (Elt F) (B.view.loc (c : Thread nD τ)), B.view.loc (c : Thread nD τ) ↦{fullShare} f) : sProp 𝕄) ⊢ blanks8 c B := by
  rw [blanks8_box]
  iintro ⟨%f, H⟩
  ihave H := (Entails.of_eq (Ring.pointsTo_blocks (boxOf B) (boxOf_dis B) hc f)) $$ H
  have hm : bigSep Finset.univ (fun b => (B.view.loc (c : Thread nD τ) ↦[boxOf B b]{fullShare} f : sProp 𝕄))
      ⊢ bigSep Finset.univ fun b => iprop(∃ f : Buf (Elt F) (B.view.loc (c : Thread nD τ)), B.view.loc (c : Thread nD τ) ↦[boxOf B b]{fullShare} f) :=
    bigSep_mono fun b _ => some_contents c B (boxOf B b) f
  iapply hm; iexact H
omit [FloatOps F] [Named F] in
theorem to_whole (c : Dev nD) (B : Memref sig .tc .vmem S4x2x512x512 .bf16) (hc : Finset.univ.biUnion (boxOf B) = Finset.univ) (f₀ : Buf (Elt F) (B.view.loc (c : Thread nD τ))) :
    blanks8 c B ⊢ (iprop(∃ f : Buf (Elt F) (B.view.loc (c : Thread nD τ)), B.view.loc (c : Thread nD τ) ↦{fullShare} f) : sProp 𝕄) := by
  rw [blanks8_box]
  have : Nonempty (Buf (Elt F) (B.view.loc (c : Thread nD τ))) := ⟨f₀⟩
  iintro H
  ihave H := (bigSep_exists_pi Finset.univ (fun b (f : Buf (Elt F) (B.view.loc (c : Thread nD τ))) => (B.view.loc (c : Thread nD τ) ↦[boxOf B b]{fullShare} f : sProp 𝕄))) $$ H
  icases H with ⟨%fs, H⟩
  ihave H := (pointsTo_biUnion_join Finset.univ (boxOf B) fs f₀ (fun b _ b' _ h => boxOf_dis B b b' h)) $$ H
  icases H with ⟨%g, -, H⟩
  ihave H := (Entails.of_eq (congrArg (fun I => (B.view.loc (c : Thread nD τ) ↦[I]{fullShare} g : sProp 𝕄)) hc)) $$ H
  iexists g; iexact H

end Cert.Ring

end
-- ==== Proof.Entry.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Slots

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ

variable (Y : ℕ → Dev nD → Vec F S512x512 .bf16) (K : Dev nD × Fin 33 → ℕ)

/-! # Entering and leaving the ring -/

/-! ## The landing slots a device opens to its neighbours -/

omit [FloatOps F] [Named F] in
theorem openedAt_mine (b : ℕ) (c d : Dev nD) (j : Fin 12) (h : lane j % 2 = b) (hd : peer (lane j) d = c) :
    (openedAt b d j : sProp 𝕄) = blank c (slotL (lane j) (hop j + 1) (hop1_lt j)) := by
  unfold openedAt; rw [if_pos h, hd]
omit [FloatOps F] [Named F] in
theorem openedAt_other (b : ℕ) (d : Dev nD) (j : Fin 12) (h : lane j % 2 ≠ b) : (openedAt b d j : sProp 𝕄) = iprop(emp) := by
  unfold openedAt; rw [if_neg h]
theorem peer_even (c : Dev nD) (j : Fin 12) (h : lane j % 2 = 0) : peer (lane j) (prv c) = c := by unfold peer; rw [if_pos h, nxt_prv]
theorem peer_odd (c : Dev nD) (j : Fin 12) (h : lane j % 2 = 1) : peer (lane j) (nxt c) = c := by
  unfold peer; rw [if_neg (by rw [h]; decide), prv_nxt]

abbrev at8 : List (Fin 4 × Fin 2) := [(0, 0), (0, 1), (1, 0), (1, 1), (2, 0), (2, 1), (3, 0), (3, 1)]
omit [FloatOps F] [Named F] in
theorem blanks8_list (c : Dev nD) (B : Memref sig .tc .vmem S4x2x512x512 .bf16) : (blanks8 c B : sProp 𝕄) =
    iprop(blank c (slot8 B (0, 0)) ∗ blank c (slot8 B (0, 1)) ∗ blank c (slot8 B (1, 0)) ∗ blank c (slot8 B (1, 1))
      ∗ blank c (slot8 B (2, 0)) ∗ blank c (slot8 B (2, 1)) ∗ blank c (slot8 B (3, 0)) ∗ blank c (slot8 B (3, 1))) := by
  unfold blanks8
  rw [bigSep_univ_eq_bigSepL at8 (by decide) (by decide)]
  simp only [bigSepL_cons_cons, bigSepL_singleton]
  rfl
abbrev at12 : List (Fin 12) := [0, 1, 2, 3, 4, 5, 6, 7, 8, 9, 10, 11]
omit [FloatOps F] [Named F] in
theorem opened_list (b : ℕ) (d : Dev nD) : (opened b d : sProp 𝕄) =
    iprop(openedAt b d 0 ∗ openedAt b d 1 ∗ openedAt b d 2 ∗ openedAt b d 3 ∗ openedAt b d 4 ∗ openedAt b d 5 ∗ openedAt b d 6 ∗ openedAt b d 7 ∗ openedAt b d 8 ∗ openedAt b d 9 ∗ openedAt b d 10 ∗ openedAt b d 11) := by
  unfold opened
  rw [bigSep_univ_eq_bigSepL at12 (by decide) (by decide)]
  simp only [bigSepL_cons_cons, bigSepL_singleton]
  rfl
omit [FloatOps F] [Named F] in
theorem opened_r (c : Dev nD) : (blanks8 c rM : sProp 𝕄) ⊢ iprop(blank c (slot8 rM (0, 0)) ∗ blank c (slot8 rM (0, 1)) ∗ opened 0 (prv c)) := by
  rw [blanks8_list, opened_list]
  rw [openedAt_mine 0 c (prv c) 0 rfl (peer_even c 0 rfl), openedAt_other 0 (prv c) 1 (by decide), openedAt_mine 0 c (prv c) 2 rfl (peer_even c 2 rfl),
    openedAt_other 0 (prv c) 3 (by decide), openedAt_mine 0 c (prv c) 4 rfl (peer_even c 4 rfl), openedAt_other 0 (prv c) 5 (by decide),
    openedAt_mine 0 c (prv c) 6 rfl (peer_even c 6 rfl), openedAt_other 0 (prv c) 7 (by decide), openedAt_mine 0 c (prv c) 8 rfl (peer_even c 8 rfl),
    openedAt_other 0 (prv c) 9 (by decide), openedAt_mine 0 c (prv c) 10 rfl (peer_even c 10 rfl), openedAt_other 0 (prv c) 11 (by decide)]
  iintro ⟨H0, H1, H2, H3, H4, H5, H6, H7⟩
  isplitl [H0]; · iexact H0
  isplitl [H1]; · iexact H1
  isplitl [H2]; · iexact H2
  isplitr; · iempintro
  isplitl [H3]; · iexact H3
  isplitr; · iempintro
  isplitl [H4]; · iexact H4
  isplitr; · iempintro
  isplitl [H5]; · iexact H5
  isplitr; · iempintro
  isplitl [H6]; · iexact H6
  isplitr; · iempintro
  isplitl [H7]; · iexact H7
  iempintro
omit [FloatOps F] [Named F] in
theorem opened_l (c : Dev nD) : (blanks8 c lM : sProp 𝕄) ⊢ iprop(blank c (slot8 lM (0, 0)) ∗ blank c (slot8 lM (0, 1)) ∗ opened 1 (nxt c)) := by
  rw [blanks8_list, opened_list]
  rw [openedAt_other 1 (nxt c) 0 (by decide), openedAt_mine 1 c (nxt c) 1 rfl (peer_odd c 1 rfl), openedAt_other 1 (nxt c) 2 (by decide),
    openedAt_mine 1 c (nxt c) 3 rfl (peer_odd c 3 rfl), openedAt_other 1 (nxt c) 4 (by decide), openedAt_mine 1 c (nxt c) 5 rfl (peer_odd c 5 rfl),
    openedAt_other 1 (nxt c) 6 (by decide), openedAt_mine 1 c (nxt c) 7 rfl (peer_odd c 7 rfl), openedAt_other 1 (nxt c) 8 (by decide),
    openedAt_mine 1 c (nxt c) 9 rfl (peer_odd c 9 rfl), openedAt_other 1 (nxt c) 10 (by decide), openedAt_mine 1 c (nxt c) 11 rfl (peer_odd c 11 rfl)]
  iintro ⟨H0, H1, H2, H3, H4, H5, H6, H7⟩
  isplitl [H0]; · iexact H0
  isplitl [H1]; · iexact H1
  isplitr; · iempintro
  isplitl [H2]; · iexact H2
  isplitr; · iempintro
  isplitl [H3]; · iexact H3
  isplitr; · iempintro
  isplitl [H4]; · iexact H4
  isplitr; · iempintro
  isplitl [H5]; · iexact H5
  isplitr; · iempintro
  isplitl [H6]; · iexact H6
  isplitr; · iempintro
  iexact H7

/-- What the neighbours open to device `c`, transfer by transfer. -/
def landing (c : Dev nD) (j : Fin 12) : sProp 𝕄 := blank (peer (lane j) c) (slotL (lane j) (hop j + 1) (hop1_lt j))
omit [FloatOps F] [Named F] in
theorem opened_both (c : Dev nD) : (iprop(opened 0 c ∗ opened 1 c) : sProp 𝕄) ⊢ bigSep Finset.univ (landing c) := by
  unfold opened
  have hj : ∀ j, (iprop(openedAt 0 c j ∗ openedAt 1 c j) : sProp 𝕄) ⊢ landing c j := fun j => by
    unfold landing openedAt
    by_cases h : lane j % 2 = 0
    · rw [if_pos h, if_neg (by omega)]; iintro ⟨H, -⟩; iexact H
    · rw [if_neg h, if_pos (by omega)]; iintro ⟨-, H⟩; iexact H
  exact (Entails.of_eq (bigSep_sep' Finset.univ (openedAt (F := F) 0 c) (openedAt 1 c)).symm).trans (bigSep_mono fun j _ => hj j)

/-! ## The barrier -/

/-- A device's tokens for the transfers it makes. -/
def sendG (c : Dev nD) (j : Fin 12) : sProp 𝕄 :=
  iprop(atPos ER (sendCell c j) 0 ∅ 0 ∗ dutyTok ER (sendCell c j) 0 false ∗ dutyTok ER (recvCell (peer (lane j) c) j) 0 false)

theorem step_signal_left (c : Dev nD) {α : Type} {Q : α → sProp 𝕄} {k : PUnit → Prog (TpuEff nD τ sig (Elt F) Λ₀ .tc) α} {n : Dev nD} {z : ℤ}
    (hn : n = prv c) (hz : z = 1) :
    iprop(records Y K ∗ (∃ W, owes (c : Thread nD τ) (O₀ c) W) ∗ dutyTok ER (barCell (prv c)) 0 true ∗ opened 0 (prv c))
      ⊢ iprop(((∃ W, owes (c : Thread nD τ) (O₁ c) W) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS z) k) Q) := by
  subst hn hz
  iintro ⟨#HR, ⟨%W, HO⟩, Ht, Hp⟩ Hk
  have hd : true ∈ (ringRd (F := F) Y).duties (barCell (prv c)) 0 := by rw [duties_bar]; exact Finset.mem_univ _
  iapply (Rounds.wp_signal 𝒱₀ ER (ringRd Y) (c : Thread nD τ) none (dst := (prv c : Thread nD τ)) (κ := K (prv c, 0)) (d := true) hd
    ((amount_bar Y (prv c) true).trans (by decide)) () (O₁ c) rfl) $$ [HO Ht Hp]
  · isplitr; · iapply (inv_at Y K (prv c, 0) (kcell_0 _)); iexact HR
    isplitl [HO]; · iexact HO
    isplitl [Ht]; · iexact Ht
    isplitl [Hp]; · rw [payload_bar, if_pos rfl]; iexact Hp
    iapply (reached_at Y K (prv c, 0) (kcell_0 _)); iexact HR
  iintro HO
  iapply Hk; iexists W; iexact HO

theorem step_signal_right (c : Dev nD) {α : Type} {Q : α → sProp 𝕄} {k : PUnit → Prog (TpuEff nD τ sig (Elt F) Λ₀ .tc) α} {n : Dev nD} {z : ℤ}
    (hn : n = nxt c) (hz : z = 1) :
    iprop(records Y K ∗ (∃ W, owes (c : Thread nD τ) (O₁ c) W) ∗ dutyTok ER (barCell (nxt c)) 0 false ∗ opened 1 (nxt c))
      ⊢ iprop(((∃ W, owes (c : Thread nD τ) (Owe 0 c) W) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS z) k) Q) := by
  subst hn hz
  iintro ⟨#HR, ⟨%W, HO⟩, Ht, Hp⟩ Hk
  have hd : false ∈ (ringRd (F := F) Y).duties (barCell (nxt c)) 0 := by rw [duties_bar]; exact Finset.mem_univ _
  iapply (Rounds.wp_signal 𝒱₀ ER (ringRd Y) (c : Thread nD τ) none (dst := (nxt c : Thread nD τ)) (κ := K (nxt c, 0)) (d := false) hd
    ((amount_bar Y (nxt c) false).trans (by decide)) () (Owe 0 c) rfl) $$ [HO Ht Hp]
  · isplitr; · iapply (inv_at Y K (nxt c, 0) (kcell_0 _)); iexact HR
    isplitl [HO]; · iexact HO
    isplitl [Ht]; · iexact Ht
    isplitl [Hp]; · rw [payload_bar, if_neg Bool.false_ne_true]; iexact Hp
    iapply (reached_at Y K (nxt c, 0) (kcell_0 _)); iexact HR
  iintro HO
  iapply Hk; iexists W; iexact HO

/-- After the barrier everything is there for the transfers. -/
theorem step_barrier (c : Dev nD) {α : Type} {Q : α → sProp 𝕄} {k : PUnit → Prog (TpuEff nD τ sig (Elt F) Λ₀ .tc) α} {z : ℤ} (hz : z = 2) :
    iprop(records Y K ∗ (∃ W, owes (c : Thread nD τ) (Owe 0 c) W) ∗ cred (tallyAt (barCell c) () 2) ∗ atPos ER (barCell c) 0 ∅ 0
        ∗ bigSep Finset.univ (sendG c) ∗ bigSep Finset.univ (recvSt 0 c))
      ⊢ iprop(((St 0 0 0 c ∗ atPos ER (barCell c) 1 ∅ 0) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS z) k) Q) := by
  subst hz
  iintro ⟨#HR, ⟨%W, HO⟩, Hc, Hat, HS, HV⟩ Hk
  have he : 0 + 2 = (ringRd (F := F) Y).expect (barCell c) 0 := by rw [expect_bar]
  iapply (Rounds.wp_wait_rest_token 𝒱₀ ER (ringRd Y) (c : Thread nD τ) none (κ := K (c, 0))
      (wpE_semWait_eq 𝒱₀ (c : Thread nD τ) none Set.univ) (Set.mem_univ _) () (O := Owe 0 c) (W := W) (R := 0) (m := 0) (T := ∅) he) $$ [Hc HO Hat]
  · isplitr; · iapply (inv_at Y K (c, 0) (kcell_0 _)); iexact HR
    isplitl [Hc]; · iexact Hc
    isplitl [HO]; · iexact HO
    isplitr
    · iapply (mayWait_Owe c _ 0 (fun _ => by rw [lv_bar]; decide)); iapply (lev_at Y K); iexact HR
    iexact Hat
  iintro ⟨HO, Hat, -, Hpay⟩
  ihave Hp := (Entails.of_eq (rest_bar Y c)) $$ Hpay
  ihave Hp := (opened_both (F := F) c) $$ Hp
  iapply Hk
  isplitr [Hat]
  · unfold St
    isplitl [HO]; · iexists _; iexact HO
    isplitr [HV]
    · have hm : (iprop(bigSep Finset.univ (sendG c) ∗ bigSep Finset.univ (landing c)) : sProp 𝕄) ⊢ bigSep Finset.univ (sendSt 0 0 c) := by
        have hj : ∀ j, (iprop(sendG c j ∗ landing c j) : sProp 𝕄) ⊢ sendSt 0 0 c j := fun j => by
          unfold sendG landing sendSt
          rw [if_neg (Nat.not_lt_zero _), if_neg (Nat.not_lt_zero _)]
          iintro ⟨⟨H1, H2, H3⟩, H4⟩
          isplitl [H1]; · iexact H1
          isplitl [H2]; · iexact H2
          isplitl [H3]; · iexact H3
          iexact H4
        exact (Entails.of_eq (bigSep_sep' Finset.univ (sendG (F := F) c) (landing c)).symm).trans (bigSep_mono fun j _ => hj j)
      iapply hm
      isplitl [HS]; · iexact HS
      iexact Hp
    iexact HV
  iexact Hat

/-! ## Closing the cells -/

/-- A device's cells that no transfer uses. -/
def spare (i : Fin 8) : Fin 33 := ⟨if i.val % 2 = 0 then 4 + 8 * (i.val / 2) else 5 + 8 * (i.val / 2), by split <;> omega⟩
theorem spare_dma (i : Fin 8) : (csem (spare i)) ≠ .reg barS := by revert i; decide
theorem spare_send (i : Fin 8) (j : Fin 12) : csem (spare i) ≠ .dma (sendS j) := by revert i j; decide
theorem spare_recv (i : Fin 8) (j : Fin 12) : csem (spare i) ≠ .dma (recvS j) := by revert i j; decide

/-- The positions of a device's cells when all is done. -/
def doneG (c : Dev nD) : sProp 𝕄 :=
  iprop(atPos ER (barCell c) 1 ∅ 0 ∗ (bigSep Finset.univ fun j : Fin 12 => atPos ER (sendCell c j) 1 ∅ 0)
    ∗ (bigSep Finset.univ fun j : Fin 12 => atPos ER (recvCell c j) 1 ∅ 0) ∗ bigSep Finset.univ fun i : Fin 8 => atPos ER (kcell (c, spare i)) 0 ∅ 0)
/-- All at zero. -/
def zeros (c : Dev nD) : sProp 𝕄 :=
  iprop(semVal (barCell c) 0 ∗ (bigSep Finset.univ fun j : Fin 12 => semVal (sendCell c j) 0)
    ∗ (bigSep Finset.univ fun j : Fin 12 => semVal (recvCell c j) 0) ∗ bigSep Finset.univ fun i : Fin 8 => semVal (kcell (c, spare i)) 0)

theorem St_done (c : Dev nD) : (St 12 12 12 c : sProp 𝕄) ⊢ iprop((∃ W, owes (c : Thread nD τ) 0 W) ∗ (bigSep Finset.univ fun j : Fin 12 => atPos ER (sendCell c j) 1 ∅ 0)
    ∗ (bigSep Finset.univ fun j : Fin 12 => atPos ER (recvCell c j) 1 ∅ 0)) := by
  unfold St
  have hs : ∀ j, (sendSt 12 12 c j : sProp 𝕄) = atPos ER (sendCell c j) 1 ∅ 0 := fun j => by unfold sendSt; rw [if_pos j.isLt]
  have hr : ∀ j, (recvSt 12 c j : sProp 𝕄) = atPos ER (recvCell c j) 1 ∅ 0 := fun j => by unfold recvSt; rw [if_pos j.isLt]
  rw [Owe_done, bigSep_congr fun j _ => hs j, bigSep_congr fun j _ => hr j]

theorem close_one (c : Dev nD) (ck : Dev nD × Fin 33) {g : GSem nD τ sig} (h : kcell ck = g) (R : ℕ) (hR : ∀ r, R ≤ r → (ringRd (F := F) Y).duties g r = ∅) :
    iprop(records Y K ∗ atPos ER g R ∅ 0) ⊢ (iprop(|={Set.univ}=> semVal g 0) : sProp 𝕄) := by
  iintro ⟨#HR, Hat⟩
  iapply (Rounds.cell_close ER (ringRd Y) (Set.mem_univ (K ck)) (fun h => h) (R := R) hR)
  isplitr; · iapply (inv_at Y K ck h); iexact HR
  iexact Hat

omit [FloatOps F] [Named F] in
/-- Something persistent goes to every member. -/
theorem share_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_many {J : Type} [Fintype J] [DecidableEq J] (ck : J → Dev nD × Fin 33) (g : J → GSem nD τ sig) (c : Dev nD) (h : ∀ j, kcell (ck j) = g j) (R : ℕ)
    (hR : ∀ j r, R ≤ r → (ringRd (F := F) Y).duties (g j) r = ∅) :
    iprop(records Y K ∗ bigSep Finset.univ fun j => atPos ER (g j) R ∅ 0) ⊢ (iprop(|={Set.univ}=> bigSep Finset.univ fun j => semVal (g j) 0) : sProp 𝕄) := by
  have h1 : iprop(records Y K ∗ bigSep Finset.univ fun j => atPos ER (g j) R ∅ 0) ⊢ (bigSep Finset.univ fun j => iprop(|={Set.univ}=> semVal (g j) 0) : sProp 𝕄) :=
    share_all fun j _ => close_one Y K c (ck j) (h j) R (hR j)
  exact h1.trans (bigSep_fupd Finset.univ fun j => semVal (g j) 0)

theorem close_all (c : Dev nD) : iprop(records Y K ∗ doneG c) ⊢ (iprop(|={Set.univ}=> zeros c) : sProp 𝕄) := by
  unfold doneG zeros
  iintro ⟨#HR, Hb, HS, HV, HX⟩
  imod (close_one Y K c (c, 0) (kcell_0 c) 1 (duties_later Y (barCell c))) $$ [Hb] with Hb
  · isplitr; · iexact HR
    iexact Hb
  imod (close_many Y K (fun j => (c, kS j)) (fun j => sendCell c j) c (kcell_S c) 1 (fun j => duties_later Y (sendCell c j))) $$ [HS] with HS
  · isplitr; · iexact HR
    iexact HS
  imod (close_many Y K (fun j => (c, kR j)) (fun j => recvCell c j) c (kcell_R c) 1 (fun j => duties_later Y (recvCell c j))) $$ [HV] with HV
  · isplitr; · iexact HR
    iexact HV
  imod (close_many Y K (fun i => (c, spare i)) (fun i => kcell (c, spare i)) c (fun _ => rfl) 0
    (fun i => duties_other Y _ (spare_dma i) (spare_send i) (spare_recv i))) $$ [HX] with HX
  · isplitr; · iexact HR
    iexact HX
  imodintro
  isplitl [Hb]; · iexact Hb
  isplitl [HS]; · iexact HS
  isplitl [HV]; · iexact HV
  iexact HX

end Cert.Ring

end
-- ==== Proof.Pack.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Slots

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ

open Idealize.ShloMosaic.ValueIdx

/-! # The packed matrices a device sends -/

/-- The block of 64 rows that lies at place `p` on device `o`. -/
def ordv (o : Dev nD) (p : Fin 8) : Fin 8 :=
  (![![0, 3, 6, 1, 4, 7, 2, 5], ![1, 4, 7, 2, 5, 0, 3, 6], ![2, 5, 0, 3, 6, 1, 4, 7], ![0, 3, 6, 1, 4, 7, 2, 5]] : Fin 4 → Fin 8 → Fin 8) o p
/-- The row that lies at row `r` on device `o`. -/
def rowAt (o : Dev nD) (r : Fin 512) : Fin 512 :=
  ⟨64 * (ordv o ⟨r.val / 64, by omega⟩).val + r.val % 64, by have := (ordv o ⟨r.val / 64, by omega⟩).isLt; omega⟩
theorem rowAt_val (o : Dev nD) (p q : Fin 8) (x : ℕ) (hx : x < 64) (r : Fin 512) (hr : r.val = 64 * p.val + x) (h : ordv o p = q) :
    (rowAt o r).val = 64 * q.val + x := by
  have hp : (⟨r.val / 64, by omega⟩ : Fin 8) = p := Fin.ext (by show r.val / 64 = p.val; omega)
  show 64 * (ordv o ⟨r.val / 64, _⟩).val + r.val % 64 = _
  rw [hp, h]; omega

/-- A matrix with its row blocks in device `o`'s order. -/
def permB (o : Dev nD) (v : Vec F S512x512 .bf16) : Vec F S512x512 .bf16 := fun i => v (ix2 (rowAt o (i 0)) (i 1))

/-- The two matrices of slot 0 as one array. -/
def slotG (o : Dev nD) (v w : Vec F S512x512 .bf16) : Vec F S4x2x512x512 .bf16 :=
  fun i => if (i 1).val = 0 then permB o v (ix2 (i 2) (i 3)) else permB o w (ix2 (i 2) (i 3))

omit [FloatOps F] [Named F] in
theorem strip_apply (v : Vec F S512x512 .bf16) (off : ℕ) (h : S512x512.Slices ![off, 0] S64x512) (h' : S64x512.ShapeCasts S1x1x64x512)
    (x : S1x1x64x512.Idx) (k : S512x512.Idx) (h0 : (k 0).val = off + (x 2).val) (h1 : (k 1).val = (x 3).val) :
    shapeCast S1x1x64x512 (extractStridedSlice S64x512 ![off, 0] v h) h' x = v k := by
  have e0 : (x 0).val = 0 := by have := (x 0).isLt; have h : S1x1x64x512.size 0 = 1 := rfl; omega
  have e1 : (x 1).val = 0 := by have := (x 1).isLt; have h : S1x1x64x512.size 1 = 1 := rfl; omega
  refine (shapeCast_apply _ h' x (ix2 (n0 := 64) (n1 := 512) (x 2) (x 3)) ?_).trans ?_
  · rw [Shape.rowMajor_val_two, Shape.rowMajor_val_four]
    show (x 2).val * 512 + (x 3).val = (((x 0).val * 1 + (x 1).val) * 64 + (x 2).val) * 512 + (x 3).val
    rw [e0, e1]; omega
  · refine extractStridedSlice_apply _ _ _ _ _ fun a => ?_
    fin_cases a
    · exact h0
    · show (k 1).val = 0 + (x 3).val; omega

theorem strip_inb (p : Fin 2) (b : Fin 8) : ∀ a, (![0, p.val, 64 * b.val, 0] : Fin 4 → ℕ) a + S1x1x64x512.size a ≤ S4x2x512x512.size a := by
  revert p b; decide

/-- One strip of 64 rows, as the body stores it. -/
def IsStrip (o : Dev nD) (v w : Vec F S512x512 .bf16) (p : Fin 2) (b : Fin 8) (q : View.Piece (Elt F) S4x2x512x512 .bf16) : Prop :=
  ∃ (off : ℕ) (h : S512x512.Slices ![off, 0] S64x512) (h' : S64x512.ShapeCasts S1x1x64x512),
    off = 64 * (ordv o b).val ∧ q = ⟨Rect.unit (s := S4x2x512x512) ![0, p.val, 64 * b.val, 0] S1x1x64x512.size (strip_inb p b),
      shapeCast S1x1x64x512 (extractStridedSlice S64x512 ![off, 0] (if p.val = 0 then v else w) h) h'⟩

omit [FloatOps F] [Named F] in
theorem strip_piece {o : Dev nD} {v w : Vec F S512x512 .bf16} {p : Fin 2} {b : Fin 8} {q : View.Piece (Elt F) S4x2x512x512 .bf16}
    (hq : IsStrip o v w p b q) : ∀ x : q.1.shape.Idx, q.2 x = slotG o v w (q.1.emb x) := by
  obtain ⟨off, h, h', ho, rfl⟩ := hq
  intro x
  have hx1 : (x 1).val = 0 := by have := (x 1).isLt; have h : S1x1x64x512.size 1 = 1 := rfl; change (x 1).val < 1 at this; omega
  have hx2 : (x 2).val < 64 := (x 2).isLt
  dsimp only
  have key : ∀ u : Vec F S512x512 .bf16, shapeCast S1x1x64x512 (extractStridedSlice S64x512 ![off, 0] u h) h' x
      = permB o u (ix2 ((Rect.unit (s := S4x2x512x512) ![0, p.val, 64 * b.val, 0] S1x1x64x512.size (strip_inb p b)).emb x 2)
        ((Rect.unit (s := S4x2x512x512) ![0, p.val, 64 * b.val, 0] S1x1x64x512.size (strip_inb p b)).emb x 3)) := fun u => by
    refine strip_apply u off h h' x _ ?_ ?_
    · rw [ho]
      exact rowAt_val o b _ (x 2).val hx2 _ (by show 64 * b.val + 1 * (x 2).val = _; omega) rfl
    · show 0 + 1 * (x 3).val = (x 3).val; omega
  unfold slotG
  have hv : ((Rect.unit (s := S4x2x512x512) ![0, p.val, 64 * b.val, 0] S1x1x64x512.size (strip_inb p b)).emb x 1).val = p.val := by
    show p.val + 1 * (x 1).val = p.val; omega
  rw [hv]
  by_cases hp : p.val = 0
  · rw [if_pos hp]; simp only [if_pos hp]; exact key v
  · rw [if_neg hp]; simp only [if_neg hp]; exact key w

/-- The strips in the order they are stored, newest first. -/
def Strips (o : Dev nD) (v w : Vec F S512x512 .bf16) (L : List (View.Piece (Elt F) S4x2x512x512 .bf16)) : Prop :=
  List.Forall₂ (fun (pb : Fin 2 × Fin 8) q => IsStrip o v w pb.1 pb.2 q)
    [(1, 7), (0, 7), (1, 6), (0, 6), (1, 5), (0, 5), (1, 4), (0, 4), (1, 3), (0, 3), (1, 2), (0, 2), (1, 1), (0, 1), (1, 0), (0, 0)] L

omit [FloatOps F] [Named F] in
theorem Strips.read (B : Memref sig .tc .vmem S4x2x512x512 .bf16) {o : Dev nD} {v w : Vec F S512x512 .bf16} {L : List (View.Piece (Elt F) S4x2x512x512 .bf16)}
    (hL : Strips o v w L) (f : B.view.ty.Contents (Elt F)) (y : S4x2x512x512.Idx) (hy : (y 0).val = 0) :
    B.view.read (Elt F) (B.view.writes (Elt F) f L) y = slotG o v w y := by
  refine View.read_writes_apply_of_pieces B.view f (slotG o v w) L ?_ y ?_
  · intro q hq
    obtain ⟨i, hi⟩ := List.mem_iff_get.mp hq
    have := (List.forall₂_iff_get.mp hL).2 i (by rw [(List.forall₂_iff_get.mp hL).1]; exact i.isLt) i.isLt
    rw [← hi]; exact strip_piece this
  · have h1 : (y 1).val < 2 := (y 1).isLt
    have h2 : (y 2).val < 512 := (y 2).isLt
    have hm : ((⟨(y 1).val, h1⟩, ⟨(y 2).val / 64, by omega⟩) : Fin 2 × Fin 8) ∈
        ([(1, 7), (0, 7), (1, 6), (0, 6), (1, 5), (0, 5), (1, 4), (0, 4), (1, 3), (0, 3), (1, 2), (0, 2), (1, 1), (0, 1), (1, 0), (0, 0)] : List (Fin 2 × Fin 8)) := by
      generalize (⟨(y 1).val, h1⟩ : Fin 2) = a; generalize (⟨(y 2).val / 64, _⟩ : Fin 8) = b
      revert a b; decide
    obtain ⟨i, hi⟩ := List.mem_iff_get.mp hm
    have hs := (List.forall₂_iff_get.mp hL).2 i i.isLt (by rw [← (List.forall₂_iff_get.mp hL).1]; exact i.isLt)
    refine ⟨L.get ⟨i.val, by rw [← (List.forall₂_iff_get.mp hL).1]; exact i.isLt⟩, List.get_mem L _, ?_⟩
    obtain ⟨off, h, h', ho, hq⟩ := hs
    rw [hq, show (List.get _ ⟨i.val, i.isLt⟩ : Fin 2 × Fin 8) = _ from hi, Rect.mem_set_unit]
    intro a
    fin_cases a
    · show 0 ≤ (y 0).val ∧ (y 0).val < 0 + 1; omega
    · show (y 1).val ≤ (y 1).val ∧ (y 1).val < (y 1).val + 1; omega
    · show 64 * ((y 2).val / 64) ≤ (y 2).val ∧ (y 2).val < 64 * ((y 2).val / 64) + 64; omega
    · have := (y 3).isLt; show 0 ≤ (y 3).val ∧ (y 3).val < 0 + 512; have h : S4x2x512x512.size 3 = 512 := rfl; omega

omit [FloatOps F] [Named F] in
theorem slot_read (B : Memref sig .tc .vmem S4x2x512x512 .bf16) (g : B.view.ty.Contents (Elt F)) (p : ℕ) (hp : p < 2) (x y : Fin 512) :
    (slotM B 0 p (by decide) hp).view.read (Elt F) g (ix2 x y) = B.view.read (Elt F) g (ix4 (n0 := 4) (n1 := 2) (n2 := 512) (n3 := 512) 0 ⟨p, hp⟩ x y) := by
  show B.view.read (Elt F) g ((rectS 0 p (by decide) hp).emb (Shape.reshapeEquiv _ (ix2 x y))) = _
  refine congrArg (B.view.read (Elt F) g) ?_
  refine (congrArg (rectS 0 p (by decide) hp).emb (reshapeEquiv_ix2_11ab (a := 512) (b := 512) (by decide) x y)).trans ?_
  funext a; fin_cases a
  · rfl
  · exact Fin.ext (by show p + 1 * 0 = p; omega)
  · exact Fin.ext (by show 0 + 1 * x.val = x.val; omega)
  · exact Fin.ext (by show 0 + 1 * y.val = y.val; omega)

omit [FloatOps F] [Named F] in
theorem Strips.slot (B : Memref sig .tc .vmem S4x2x512x512 .bf16) {o : Dev nD} {v w : Vec F S512x512 .bf16} {L : List (View.Piece (Elt F) S4x2x512x512 .bf16)}
    (hL : Strips o v w L) (f : B.view.ty.Contents (Elt F)) (p : ℕ) (hp : p < 2) :
    (slotM B 0 p (by decide) hp).view.read (Elt F) (B.view.writes (Elt F) f L) = permB o (if p = 0 then v else w) := by
  funext z
  obtain ⟨x, y, rfl⟩ : ∃ x y, z = ix2 x y := ⟨z 0, z 1, eq_ix2 z⟩
  refine (slot_read B _ p hp x y).trans ((hL.read B f (ix4 (n0 := 4) (n1 := 2) (n2 := 512) (n3 := 512) 0 ⟨p, hp⟩ x y) rfl).trans ?_)
  unfold slotG
  by_cases h : p = 0
  · rw [if_pos h, if_pos h]
  · rw [if_neg h, if_neg h]

omit [FloatOps F] [Named F] in
/-- Slot 0 as packed is the two permuted matrices. -/
theorem packed (c : Dev nD) (B : Memref sig .tc .vmem S4x2x512x512 .bf16) (f : Buf (Elt F) (B.view.loc (c : Thread nD τ))) (L : List (View.Piece (Elt F) S4x2x512x512 .bf16))
    (v w X0 X1 : Vec F S512x512 .bf16) (h0 : X0 = permB c v) (h1 : X1 = permB c w) :
    (iprop((B.view.loc (c : Thread nD τ) ↦[B.view.setOn slot0.set]{fullShare} B.view.writes (Elt F) f L) ∗ ⌜Strips c v w L⌝) : sProp 𝕄)
      ⊢ iprop(holds c (slotM B 0 0 (by decide) (by decide)) fullShare X0 ∗ holds c (slotM B 0 1 (by decide) (by decide)) fullShare X1) := by
  iintro ⟨H, %hL⟩
  have e0 : (slotM B 0 0 (by decide) (by decide)).view.read (Elt F) (B.view.writes (Elt F) f L) = X0 := by
    rw [h0]; exact (hL.slot B f 0 (by decide)).trans (congrArg (permB c) (if_pos rfl))
  have e1 : (slotM B 0 1 (by decide) (by decide)).view.read (Elt F) (B.view.writes (Elt F) f L) = X1 := by
    rw [h1]; exact (hL.slot B f 1 (by decide)).trans (congrArg (permB c) (if_neg (by decide)))
  iapply (slot0_to_holds (F := F) c B (B.view.writes (Elt F) f L) X0 X1 e0 e1)
  iexact H

/-- The four matrices a device packs: keys of batch 0 and 1, values of batch 0 and 1. -/
def mat0 (kk : Vec F S2x512x8x64 .f32) : Vec F S512x512 .bf16 :=
  k0_pay599 (View.readAt (Elt F) (Memref.whole cc0_stg2_0).view (Rect.unit (s := S2x512x8x64) ![0, 0, 0, 0] ![1, 512, 8, 64] inb_S2x512x8x64_S1x512x8x64_0_0_0_0).toLoadRect kk)
def mat1 (kk : Vec F S2x512x8x64 .f32) : Vec F S512x512 .bf16 :=
  k0_pay600 (View.readAt (Elt F) (Memref.whole cc0_stg2_0).view (Rect.unit (s := S2x512x8x64) ![1, 0, 0, 0] ![1, 512, 8, 64] inb_S2x512x8x64_S1x512x8x64_1_0_0_0).toLoadRect kk)
def mat2 (vv : Vec F S2x512x8x64 .f32) : Vec F S512x512 .bf16 :=
  k0_pay601 (View.readAt (Elt F) (Memref.whole cc0_stg3_0).view (Rect.unit (s := S2x512x8x64) ![0, 0, 0, 0] ![1, 512, 8, 64] inb_S2x512x8x64_S1x512x8x64_0_0_0_0).toLoadRect vv)
def mat3 (vv : Vec F S2x512x8x64 .f32) : Vec F S512x512 .bf16 :=
  k0_pay602 (View.readAt (Elt F) (Memref.whole cc0_stg3_0).view (Rect.unit (s := S2x512x8x64) ![1, 0, 0, 0] ![1, 512, 8, 64] inb_S2x512x8x64_S1x512x8x64_1_0_0_0).toLoadRect vv)

theorem dev4 (c : Dev nD) : c = 0 ∨ c = 1 ∨ c = 2 ∨ c = 3 := by revert c; decide
theorem word_of (c d : Dev nD) (h : c = d) : Scalar.remsi (Scalar.divsi (c.tc (τ := τ)).1.word 1#32) 4#32 = BitVec.ofNat 32 d.val := by
  subst h; revert c; decide

omit [FloatOps F] [Named F] in
theorem some_of {ℓ : Loc nD τ sig} (f : Buf (Elt F) ℓ) : ((ℓ ↦{fullShare} f) : sProp 𝕄) ⊢ iprop(∃ g : Buf (Elt F) ℓ, ℓ ↦{fullShare} g) := by
  iintro H; iexists f; iexact H

end Cert.Ring

end
-- ==== Proof.Steps.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Entry

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ
/-! # The remote steps in the form the body's run applies, and what the run leaves -/

variable (Y : ℕ → Dev nD → Vec F S512x512 .bf16) (K : Dev nD × Fin 33 → ℕ)
theorem to_wand {A B C : sProp 𝕄} (h : A ⊢ iprop(B -∗ C)) : iprop(A ∗ B) ⊢ C := by
  iintro ⟨HA, HB⟩
  iapply h $$ HA
  iexact HB
theorem at_nxt {v : ℕ} {c : Dev nD} (h : v = (c.val + 1) % 4) (hv : v < nD) : (⟨v, hv⟩ : Dev nD) = nxt c := Fin.ext h
theorem at_prv {v : ℕ} {c : Dev nD} (h : v = (c.val + 3) % 4) (hv : v < nD) : (⟨v, hv⟩ : Dev nD) = prv c := Fin.ext h
theorem do_send (c : Dev nD) (j : Fin 12) {α : Type} {Q : α → sProp 𝕄} {k : PUnit → Prog (TpuEff nD τ sig (Elt F) Λ₀ .tc) α} {n : Dev nD} {src dst : Memref sig .tc .vmem S512x512 .bf16} {sS sR : DmaSem sig}
    (hn : n = peer (lane j) c) (hs : src = slotL (lane j) (hop j) (hop_lt j)) (hd : dst = slotL (lane j) (hop j + 1) (hop1_lt j))
    (hS : sS = sendS j) (hR : sR = recvS j)
    {hsc : (dst : Memref sig (Dev.tc n : Thread nD τ).2.kind .vmem S512x512 .bf16).view.ref.isScScratch = false}
    {hsrc : src.view.WordExact} {hdst : dst.view.WordExact}
    {hsem : DmaTarget.Typed .vmem (.dma sR) (.remote (Dev.tc n : Thread nD τ) dst (.dma sS) hsc)} {b : ℕ} :
    iprop((records Y K ∗ St j.val b 0 c ∗ holds c src fullShare.left (at_ Y (lane j) (hop j) c))
      ∗ (St (j.val + 1) b 0 c -∗ wp frame (wpE (defs₀ (F := F)) 𝒱₀ (c : Thread nD τ) none) Set.univ (k ⟨⟩) Q))
      ⊢ wp frame (wpE (defs₀ (F := F)) 𝒱₀ (c : Thread nD τ) none) Set.univ
            (.op (.enqueueDma src (.remote (Dev.tc n : Thread nD τ) dst (.dma sS) hsc) (.dma sR) hsrc hdst hsem) k) Q :=
  to_wand (step_send Y K c j hn hs hd hS hR)
theorem do_recv (c : Dev nD) (j : Fin 12) {m : Memref sig .tc .vmem S512x512 .bf16} {X : Vec F S512x512 .bf16} (hm : slotL (lane j) (hop j + 1) (hop1_lt j) = m) (hX : at_ Y (lane j) (hop j + 1) c = X) {α : Type} {Q : α → sProp 𝕄} {k : PUnit → Prog (TpuEff nD τ sig (Elt F) Λ₀ .tc) α} {a : ℕ} (ha : a < 12 → 4 + j.val ≤ a) {src dst : Memref sig .tc .vmem S512x512 .bf16} {sR : DmaSem sig}
    (hR : sR = recvS j) (hd : dst = slotL (lane j) (hop j + 1) (hop1_lt j)) {hsrc : src.view.WordExact} {hdst : dst.view.WordExact} :
    iprop((records Y K ∗ St a j.val 0 c)
      ∗ ((St a (j.val + 1) 0 c ∗ holds c m fullShare X)
          -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sR src dst hsrc hdst) k) Q :=
  by subst hd hm hX; exact to_wand (step_recv Y K c j ha hR (N_slot _ _ _))
theorem do_depart (c : Dev nD) (j : Fin 12) {m : Memref sig .tc .vmem S512x512 .bf16} {X : Vec F S512x512 .bf16} (hm : slotL (lane j) (hop j) (hop_lt j) = m) (hX : at_ Y (lane j) (hop j) c = X) {α : Type} {Q : α → sProp 𝕄} {k : PUnit → Prog (TpuEff nD τ sig (Elt F) Λ₀ .tc) α} {b : ℕ} {src dst : Memref sig .tc .vmem S512x512 .bf16} {sS : DmaSem sig}
    (hS : sS = sendS j) (hd : dst = slotL (lane j) (hop j) (hop_lt j)) {hsrc : src.view.WordExact} {hdst : dst.view.WordExact} :
    iprop((records Y K ∗ St 12 b j.val c)
      ∗ ((St 12 b (j.val + 1) c ∗ holds c m fullShare.left X)
          -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sS src dst hsrc hdst) k) Q :=
  by subst hd hm hX; exact to_wand (step_depart Y K c j hS (N_slot _ _ _))

omit [FloatOps F] [Named F] in
/-- Both halves of a slot back: it is free again. -/
theorem half_back (c : Dev nD) (m : Memref sig .tc .vmem S512x512 .bf16) (X : Vec F S512x512 .bf16) :
    (iprop(holds c m fullShare.left X ∗ holds c m fullShare.right X) : sProp 𝕄) ⊢ blank c m :=
  (holds_join c m X).trans (holds_blank c m X)

/-- A buffer held at anything. -/
abbrev anyOf (c : Dev nD) (b : Ref sig .tc) : sProp 𝕄 :=
  iprop(∃ f : Buf (Elt F) ((Memref.whole b).view.loc (c : Thread nD τ)), (Memref.whole b).view.loc (c : Thread nD τ) ↦[Finset.univ]{fullShare} f)

/-- Pieces that cover the output, laid over nothing. -/
def laid (Lw : List (View.Piece (Elt F) S2x512x768 .f32)) : Vec F S2x512x768 .f32 :=
  (Memref.whole cc0_stg5_0).view.writes (Elt F) ((Memref.whole cc0_stg5_0).view.junk) Lw
omit [Named F] in
theorem laid_out (c : Dev nD) (o : Vec F S2x512x768 .f32) (Lw : List (View.Piece (Elt F) S2x512x768 .f32)) (h : ∀ y, ∃ p ∈ Lw, y ∈ p.1.set) :
    ((Memref.whole cc0_stg5_0).view.loc (c : Thread nD τ) ↦[Finset.univ]{fullShare} ((Memref.whole cc0_stg5_0).view.writes (Elt F) o Lw) : sProp 𝕄)
      ⊢ ((Memref.whole cc0_stg5_0).view.loc (c : Thread nD τ) ↦[Finset.univ]{fullShare} laid Lw) := by
  have e : (Memref.whole cc0_stg5_0).view.writes (Elt F) o Lw = laid Lw :=
    (View.read_writes_of_cover (Memref.whole cc0_stg5_0).view o (Memref.whole cc0_stg5_0).view (Memref.whole cc0_stg5_0).view.junk Lw h)
  rw [e]

/-- What the body leaves on device `c`, its result `v`. -/
def left (c : Dev nD) (x : Vec F S2x512x768 .f32) (wq : Vec F S768x512 .f32) (kk vv : Vec F S2x512x8x64 .f32) (wo : Vec F S512x768 .f32) (v : Vec F S2x512x768 .f32) : sProp 𝕄 :=
  iprop(St 12 12 12 c ∗ atPos ER (barCell c) 1 ∅ 0 ∗ blanks8 c rM ∗ blanks8 c lM
      ∗ ((Memref.whole cc0_stg0_0).view.loc (c : Thread nD τ) ↦[Finset.univ]{fullShare} x)
      ∗ ((Memref.whole cc0_stg1_0).view.loc (c : Thread nD τ) ↦[Finset.univ]{fullShare} wq)
      ∗ ((Memref.whole cc0_stg2_0).view.loc (c : Thread nD τ) ↦[Finset.univ]{fullShare} kk)
      ∗ ((Memref.whole cc0_stg3_0).view.loc (c : Thread nD τ) ↦[Finset.univ]{fullShare} vv)
      ∗ ((Memref.whole cc0_stg4_0).view.loc (c : Thread nD τ) ↦[Finset.univ]{fullShare} wo)
      ∗ ((Memref.whole cc0_stg5_0).view.loc (c : Thread nD τ) ↦[Finset.univ]{fullShare} v)
      ∗ anyOf c cc0_scratch2 ∗ anyOf c cc0_scratch3 ∗ anyOf c cc0_scratch4 ∗ anyOf c cc0_scratch5
      ∗ anyOf c cc0_scratch6 ∗ anyOf c cc0_scratch7 ∗ anyOf c cc0_scratch8 ∗ anyOf c cc0_scratch9)

end Cert.Ring

end
-- ==== Proof.Body.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Entry
public import proofs.«01_k».proof.Proof.Pack
public import proofs.«01_k».proof.Proof.Steps

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ
/-! # The body's run, its steps in program order, on a device at place `k` of the ring

The result is read off the run: the term it leaves in the output's buffer. -/

set_option maxHeartbeats 40000000 in
/-- The run of the body on a device at place `k`, with its result. -/
def bodyRun (Y : ℕ → Dev nD → Vec F S512x512 .bf16) (c : Dev nD)
   (x : Vec F S2x512x768 .f32) (wq : Vec F S768x512 .f32) (kk vv : Vec F S2x512x8x64 .f32) (wo : Vec F S512x768 .f32) (k : Fin 4) (h : c = k) :
   {v : Vec F S2x512x768 .f32 // ∀ (K : Dev nD × Fin 33 → ℕ) (o : Vec F S2x512x768 .f32)
   (hY0 : Y 0 c = permB c (mat0 kk)) (hY1 : Y 1 c = permB c (mat1 kk)) (hY2 : Y 2 c = permB c (mat2 vv)) (hY3 : Y 3 c = permB c (mat3 vv))
   (qh qp kh vh : Vec F S2x8x512x64 .bf16) (ac ap : Vec F S2x8x512x64 .f32) (ll lp : Vec F S2x8x512 .f32),
   (iprop(records Y K ∗ (∃ W, owes (c : Thread nD τ) (O₀ c) W) ∗ dutyTok ER (barCell (prv c)) 0 true ∗ dutyTok ER (barCell (nxt c)) 0 false
      ∗ cred (tallyAt (barCell c) () 2) ∗ atPos ER (barCell c) 0 ∅ 0 ∗ bigSep Finset.univ (sendG c) ∗ bigSep Finset.univ (recvSt 0 c)
      ∗ blanks8 c rM ∗ blanks8 c lM
      ∗ ((Memref.whole cc0_stg0_0).view.loc (c : Thread nD τ) ↦[Finset.univ]{fullShare} x)
      ∗ ((Memref.whole cc0_stg1_0).view.loc (c : Thread nD τ) ↦[Finset.univ]{fullShare} wq)
      ∗ ((Memref.whole cc0_stg2_0).view.loc (c : Thread nD τ) ↦[Finset.univ]{fullShare} kk)
      ∗ ((Memref.whole cc0_stg3_0).view.loc (c : Thread nD τ) ↦[Finset.univ]{fullShare} vv)
      ∗ ((Memref.whole cc0_stg4_0).view.loc (c : Thread nD τ) ↦[Finset.univ]{fullShare} wo)
      ∗ ((Memref.whole cc0_stg5_0).view.loc (c : Thread nD τ) ↦[Finset.univ]{fullShare} o)
      ∗ ((Memref.whole cc0_scratch2).view.loc (c : Thread nD τ) ↦[Finset.univ]{fullShare} qh)
      ∗ ((Memref.whole cc0_scratch3).view.loc (c : Thread nD τ) ↦[Finset.univ]{fullShare} qp)
      ∗ ((Memref.whole cc0_scratch4).view.loc (c : Thread nD τ) ↦[Finset.univ]{fullShare} kh)
      ∗ ((Memref.whole cc0_scratch5).view.loc (c : Thread nD τ) ↦[Finset.univ]{fullShare} vh)
      ∗ ((Memref.whole cc0_scratch6).view.loc (c : Thread nD τ) ↦[Finset.univ]{fullShare} ac)
      ∗ ((Memref.whole cc0_scratch7).view.loc (c : Thread nD τ) ↦[Finset.univ]{fullShare} ap)
      ∗ ((Memref.whole cc0_scratch8).view.loc (c : Thread nD τ) ↦[Finset.univ]{fullShare} ll)
      ∗ ((Memref.whole cc0_scratch9).view.loc (c : Thread nD τ) ↦[Finset.univ]{fullShare} lp)) : sProp 𝕄)
   ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17)
      (fun _ => left c x wq kk vv wo v)} :=
  match k, h with
  | 0, h | 1, h | 2, h | 3, h => by
    apply Subtype.mk
    intro K o hY0 hY1 hY2 hY3 qh qp kh vh ac ap ll lp
    generalize hp : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 = p
    unfold cc0_body at hp
    simp only [k0_part182_eq_skeleton] at hp; unfold k0_part182_skel at hp
    simp only [k0_part135_eq_skeleton] at hp; unfold k0_part135_skel at hp
    simp only [semSignalWord, semWaitWord, Prog.lift, Prog.bind_op, Prog.bind_ret, Prog.pure_eq_ret] at hp
    subst hp
    iintro ⟨#HR, HO, Hb1, Hb2, Hcr, Hbar, HS, HV, Hr, Hl, Hx, Hw, Hk, Hv, Hwo, Ho, H2, H3, H4, H5, H6, H7, H8, H9⟩
    ihave Hr := (opened_r (F := F) c) $$ Hr
    icases Hr with ⟨Hr0, Hr1, Hr⟩
    ihave Hl := (opened_l (F := F) c) $$ Hl
    icases Hl with ⟨Hl0, Hl1, Hl⟩
    rw [wp_deviceId]
    iapply (step_signal_left Y K c (at_prv (k0_dev1_eq c) (k0_dev1_lt c)) rfl) $$ [HO Hb1 Hr]
    · isplitr; · iexact HR
      isplitl [HO]; · iexact HO
      isplitl [Hb1]; · iexact Hb1
      iexact Hr
    iintro HO
    iapply (step_signal_right Y K c (at_nxt (k0_dev2_eq c) (k0_dev2_lt c)) rfl) $$ [HO Hb2 Hl]
    · isplitr; · iexact HR
      isplitl [HO]; · iexact HO
      isplitl [Hb2]; · iexact Hb2
      iexact Hl
    iintro HO
    iapply (step_barrier Y K c rfl) $$ [HO Hcr Hbar HS HV]
    · isplitr; · iexact HR
      isplitl [HO]; · iexact HO
      isplitl [Hcr]; · iexact Hcr
      isplitl [Hbar]; · iexact Hbar
      isplitl [HS]; · iexact HS
      iexact HV
    iintro ⟨HSt, Hbar⟩
    ihave Hr := (slot0_of_blanks (F := F) c rM) $$ [Hr0 Hr1]
    · isplitl [Hr0]; · iexact Hr0
      iexact Hr1
    icases Hr with ⟨%fr, Hr⟩
    ihave Hl := (slot0_of_blanks (F := F) c lM) $$ [Hl0 Hl1]
    · isplitl [Hl0]; · iexact Hl0
      iexact Hl1
    icases Hl with ⟨%fl, Hl⟩
    set_option sl_exec.stopBefore "k0_part136" in sl_exec_parts (disch := decide)
    have hw := word_of c _ h
    rw [hw]
    sl_exec_parts (disch := decide)
    ihave Hr := (packed c rM _ _ (mat0 kk) (mat2 vv) (Y 0 (org 0 0 c)) (Y 2 (org 2 0 c)) hY0 hY2) $$ [Hr]
    · isplitl [Hr]; · iexact Hr
      ipureintro
      refine .cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ .nil)))))))))))))))
      all_goals (rw [h]; rfl)
    icases Hr with ⟨M0, M2⟩
    ihave Hl := (packed c lM _ _ (mat1 kk) (mat3 vv) (Y 1 (org 1 0 c)) (Y 3 (org 3 0 c)) hY1 hY3) $$ [Hl]
    · isplitl [Hl]; · iexact Hl
      ipureintro
      refine .cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ (.cons ⟨_, _, _, ?_, rfl⟩ .nil)))))))))))))))
      all_goals (rw [h]; rfl)
    icases Hl with ⟨M1, M3⟩
    ihave M0 := (holds_split c (slotM rM 0 0 _ _) (Y 0 (org 0 0 c))) $$ M0
    icases M0 with ⟨M0, R00⟩
    iapply (do_send Y K c 0 (at_nxt (k0_dev3_eq c) (k0_dev3_lt c)) rfl rfl rfl rfl (b := 0))
    isplitl [HSt M0]
    · isplitr; · iexact HR
      isplitl [HSt]; · iexact HSt
      iexact M0
    iintro HSt
    sl_exec_parts (disch := decide)
    ihave M1 := (holds_split c (slotM lM 0 0 _ _) (Y 1 (org 1 0 c))) $$ M1
    icases M1 with ⟨M1, R10⟩
    iapply (do_send Y K c 1 (at_prv (k0_dev4_eq c) (k0_dev4_lt c)) rfl rfl rfl rfl (b := 0))
    isplitl [HSt M1]
    · isplitr; · iexact HR
      isplitl [HSt]; · iexact HSt
      iexact M1
    iintro HSt
    sl_exec_parts (disch := decide)
    ihave M2 := (holds_split c (slotM rM 0 1 _ _) (Y 2 (org 2 0 c))) $$ M2
    icases M2 with ⟨M2, R20⟩
    iapply (do_send Y K c 2 (at_nxt (k0_dev5_eq c) (k0_dev5_lt c)) rfl rfl rfl rfl (b := 0))
    isplitl [HSt M2]
    · isplitr; · iexact HR
      isplitl [HSt]; · iexact HSt
      iexact M2
    iintro HSt
    sl_exec_parts (disch := decide)
    ihave M3 := (holds_split c (slotM lM 0 1 _ _) (Y 3 (org 3 0 c))) $$ M3
    icases M3 with ⟨M3, R30⟩
    iapply (do_send Y K c 3 (at_prv (k0_dev6_eq c) (k0_dev6_lt c)) rfl rfl rfl rfl (b := 0))
    isplitl [HSt M3]
    · isplitr; · iexact HR
      isplitl [HSt]; · iexact HSt
      iexact M3
    iintro HSt
    sl_exec_parts (disch := decide)
    iapply (do_recv Y K c 0 (m := slotM rM 1 0 (by decide) (by decide)) (X := Y 0 (org 0 1 c)) rfl rfl (a := 4) (by decide) rfl rfl)
    isplitl [HSt]
    · isplitr; · iexact HR
      iexact HSt
    iintro ⟨HSt, M0⟩
    sl_exec_parts (disch := decide)
    ihave M0 := (holds_split c (slotM rM 1 0 _ _) (Y 0 (org 0 1 c))) $$ M0
    icases M0 with ⟨M0, R01⟩
    iapply (do_send Y K c 4 (at_nxt (k0_dev7_eq c) (k0_dev7_lt c)) rfl rfl rfl rfl (b := 1))
    isplitl [HSt M0]
    · isplitr; · iexact HR
      isplitl [HSt]; · iexact HSt
      iexact M0
    iintro HSt
    sl_exec_parts (disch := decide)
    iapply (do_recv Y K c 1 (m := slotM lM 1 0 (by decide) (by decide)) (X := Y 1 (org 1 1 c)) rfl rfl (a := 5) (by decide) rfl rfl)
    isplitl [HSt]
    · isplitr; · iexact HR
      iexact HSt
    iintro ⟨HSt, M1⟩
    sl_exec_parts (disch := decide)
    ihave M1 := (holds_split c (slotM lM 1 0 _ _) (Y 1 (org 1 1 c))) $$ M1
    icases M1 with ⟨M1, R11⟩
    iapply (do_send Y K c 5 (at_prv (k0_dev8_eq c) (k0_dev8_lt c)) rfl rfl rfl rfl (b := 2))
    isplitl [HSt M1]
    · isplitr; · iexact HR
      isplitl [HSt]; · iexact HSt
      iexact M1
    iintro HSt
    sl_exec_parts (disch := decide)
    iapply (do_recv Y K c 2 (m := slotM rM 1 1 (by decide) (by decide)) (X := Y 2 (org 2 1 c)) rfl rfl (a := 6) (by decide) rfl rfl)
    isplitl [HSt]
    · isplitr; · iexact HR
      iexact HSt
    iintro ⟨HSt, M2⟩
    sl_exec_parts (disch := decide)
    ihave M2 := (holds_split c (slotM rM 1 1 _ _) (Y 2 (org 2 1 c))) $$ M2
    icases M2 with ⟨M2, R21⟩
    iapply (do_send Y K c 6 (at_nxt (k0_dev9_eq c) (k0_dev9_lt c)) rfl rfl rfl rfl (b := 3))
    isplitl [HSt M2]
    · isplitr; · iexact HR
      isplitl [HSt]; · iexact HSt
      iexact M2
    iintro HSt
    sl_exec_parts (disch := decide)
    iapply (do_recv Y K c 3 (m := slotM lM 1 1 (by decide) (by decide)) (X := Y 3 (org 3 1 c)) rfl rfl (a := 7) (by decide) rfl rfl)
    isplitl [HSt]
    · isplitr; · iexact HR
      iexact HSt
    iintro ⟨HSt, M3⟩
    sl_exec_parts (disch := decide)
    ihave M3 := (holds_split c (slotM lM 1 1 _ _) (Y 3 (org 3 1 c))) $$ M3
    icases M3 with ⟨M3, R31⟩
    iapply (do_send Y K c 7 (at_prv (k0_dev10_eq c) (k0_dev10_lt c)) rfl rfl rfl rfl (b := 4))
    isplitl [HSt M3]
    · isplitr; · iexact HR
      isplitl [HSt]; · iexact HSt
      iexact M3
    iintro HSt
    ihave R01 := (holds_r c 1 0 _ _ fullShare.right (Y 0 (org 0 1 c))) $$ R01
    sl_exec_parts (disch := decide)
    ihave R01 := (r_holds c 1 0 _ _ fullShare.right (Y 0 (org 0 1 c))) $$ R01
    ihave R21 := (holds_r c 1 1 _ _ fullShare.right (Y 2 (org 2 1 c))) $$ R21
    sl_exec_parts (disch := decide)
    ihave R21 := (r_holds c 1 1 _ _ fullShare.right (Y 2 (org 2 1 c))) $$ R21
    ihave R11 := (holds_l c 1 0 _ _ fullShare.right (Y 1 (org 1 1 c))) $$ R11
    sl_exec_parts (disch := decide)
    ihave R11 := (l_holds c 1 0 _ _ fullShare.right (Y 1 (org 1 1 c))) $$ R11
    ihave R31 := (holds_l c 1 1 _ _ fullShare.right (Y 3 (org 3 1 c))) $$ R31
    sl_exec_parts (disch := decide)
    ihave R31 := (l_holds c 1 1 _ _ fullShare.right (Y 3 (org 3 1 c))) $$ R31
    iapply (do_recv Y K c 4 (m := slotM rM 2 0 (by decide) (by decide)) (X := Y 0 (org 0 2 c)) rfl rfl (a := 8) (by decide) rfl rfl)
    isplitl [HSt]
    · isplitr; · iexact HR
      iexact HSt
    iintro ⟨HSt, M0⟩
    sl_exec_parts (disch := decide)
    ihave M0 := (holds_split c (slotM rM 2 0 _ _) (Y 0 (org 0 2 c))) $$ M0
    icases M0 with ⟨M0, R02⟩
    iapply (do_send Y K c 8 (at_nxt (k0_dev11_eq c) (k0_dev11_lt c)) rfl rfl rfl rfl (b := 5))
    isplitl [HSt M0]
    · isplitr; · iexact HR
      isplitl [HSt]; · iexact HSt
      iexact M0
    iintro HSt
    sl_exec_parts (disch := decide)
    iapply (do_recv Y K c 5 (m := slotM lM 2 0 (by decide) (by decide)) (X := Y 1 (org 1 2 c)) rfl rfl (a := 9) (by decide) rfl rfl)
    isplitl [HSt]
    · isplitr; · iexact HR
      iexact HSt
    iintro ⟨HSt, M1⟩
    sl_exec_parts (disch := decide)
    ihave M1 := (holds_split c (slotM lM 2 0 _ _) (Y 1 (org 1 2 c))) $$ M1
    icases M1 with ⟨M1, R12⟩
    iapply (do_send Y K c 9 (at_prv (k0_dev12_eq c) (k0_dev12_lt c)) rfl rfl rfl rfl (b := 6))
    isplitl [HSt M1]
    · isplitr; · iexact HR
      isplitl [HSt]; · iexact HSt
      iexact M1
    iintro HSt
    sl_exec_parts (disch := decide)
    iapply (do_recv Y K c 6 (m := slotM rM 2 1 (by decide) (by decide)) (X := Y 2 (org 2 2 c)) rfl rfl (a := 10) (by decide) rfl rfl)
    isplitl [HSt]
    · isplitr; · iexact HR
      iexact HSt
    iintro ⟨HSt, M2⟩
    sl_exec_parts (disch := decide)
    ihave M2 := (holds_split c (slotM rM 2 1 _ _) (Y 2 (org 2 2 c))) $$ M2
    icases M2 with ⟨M2, R22⟩
    iapply (do_send Y K c 10 (at_nxt (k0_dev13_eq c) (k0_dev13_lt c)) rfl rfl rfl rfl (b := 7))
    isplitl [HSt M2]
    · isplitr; · iexact HR
      isplitl [HSt]; · iexact HSt
      iexact M2
    iintro HSt
    sl_exec_parts (disch := decide)
    iapply (do_recv Y K c 7 (m := slotM lM 2 1 (by decide) (by decide)) (X := Y 3 (org 3 2 c)) rfl rfl (a := 11) (by decide) rfl rfl)
    isplitl [HSt]
    · isplitr; · iexact HR
      iexact HSt
    iintro ⟨HSt, M3⟩
    sl_exec_parts (disch := decide)
    ihave M3 := (holds_split c (slotM lM 2 1 _ _) (Y 3 (org 3 2 c))) $$ M3
    icases M3 with ⟨M3, R32⟩
    iapply (do_send Y K c 11 (at_prv (k0_dev14_eq c) (k0_dev14_lt c)) rfl rfl rfl rfl (b := 8))
    isplitl [HSt M3]
    · isplitr; · iexact HR
      isplitl [HSt]; · iexact HSt
      iexact M3
    iintro HSt
    ihave R02 := (holds_r c 2 0 _ _ fullShare.right (Y 0 (org 0 2 c))) $$ R02
    sl_exec_parts (disch := decide)
    ihave R02 := (r_holds c 2 0 _ _ fullShare.right (Y 0 (org 0 2 c))) $$ R02
    ihave R22 := (holds_r c 2 1 _ _ fullShare.right (Y 2 (org 2 2 c))) $$ R22
    sl_exec_parts (disch := decide)
    ihave R22 := (r_holds c 2 1 _ _ fullShare.right (Y 2 (org 2 2 c))) $$ R22
    ihave R12 := (holds_l c 2 0 _ _ fullShare.right (Y 1 (org 1 2 c))) $$ R12
    sl_exec_parts (disch := decide)
    ihave R12 := (l_holds c 2 0 _ _ fullShare.right (Y 1 (org 1 2 c))) $$ R12
    ihave R32 := (holds_l c 2 1 _ _ fullShare.right (Y 3 (org 3 2 c))) $$ R32
    sl_exec_parts (disch := decide)
    ihave R32 := (l_holds c 2 1 _ _ fullShare.right (Y 3 (org 3 2 c))) $$ R32
    iapply (do_recv Y K c 8 (m := slotM rM 3 0 (by decide) (by decide)) (X := Y 0 (org 0 3 c)) rfl rfl (a := 12) (by decide) rfl rfl)
    isplitl [HSt]
    · isplitr; · iexact HR
      iexact HSt
    iintro ⟨HSt, M0⟩
    sl_exec_parts (disch := decide)
    iapply (do_recv Y K c 9 (m := slotM lM 3 0 (by decide) (by decide)) (X := Y 1 (org 1 3 c)) rfl rfl (a := 12) (by decide) rfl rfl)
    isplitl [HSt]
    · isplitr; · iexact HR
      iexact HSt
    iintro ⟨HSt, M1⟩
    sl_exec_parts (disch := decide)
    iapply (do_recv Y K c 10 (m := slotM rM 3 1 (by decide) (by decide)) (X := Y 2 (org 2 3 c)) rfl rfl (a := 12) (by decide) rfl rfl)
    isplitl [HSt]
    · isplitr; · iexact HR
      iexact HSt
    iintro ⟨HSt, M2⟩
    sl_exec_parts (disch := decide)
    iapply (do_recv Y K c 11 (m := slotM lM 3 1 (by decide) (by decide)) (X := Y 3 (org 3 3 c)) rfl rfl (a := 12) (by decide) rfl rfl)
    isplitl [HSt]
    · isplitr; · iexact HR
      iexact HSt
    iintro ⟨HSt, M3⟩
    ihave M0 := (holds_r c 3 0 _ _ fullShare (Y 0 (org 0 3 c))) $$ M0
    sl_exec_parts (disch := decide)
    ihave M0 := (r_holds c 3 0 _ _ fullShare (Y 0 (org 0 3 c))) $$ M0
    ihave M2 := (holds_r c 3 1 _ _ fullShare (Y 2 (org 2 3 c))) $$ M2
    sl_exec_parts (disch := decide)
    ihave M2 := (r_holds c 3 1 _ _ fullShare (Y 2 (org 2 3 c))) $$ M2
    ihave M1 := (holds_l c 3 0 _ _ fullShare (Y 1 (org 1 3 c))) $$ M1
    sl_exec_parts (disch := decide)
    ihave M1 := (l_holds c 3 0 _ _ fullShare (Y 1 (org 1 3 c))) $$ M1
    ihave M3 := (holds_l c 3 1 _ _ fullShare (Y 3 (org 3 3 c))) $$ M3
    sl_exec_parts (disch := decide)
    ihave M3 := (l_holds c 3 1 _ _ fullShare (Y 3 (org 3 3 c))) $$ M3
    iapply (do_depart Y K c 0 (m := slotM rM 0 0 (by decide) (by decide)) (X := Y 0 (org 0 0 c)) rfl rfl (b := 12) rfl rfl)
    isplitl [HSt]
    · isplitr; · iexact HR
      iexact HSt
    iintro ⟨HSt, D00⟩
    sl_exec_parts (disch := decide)
    iapply (do_depart Y K c 1 (m := slotM lM 0 0 (by decide) (by decide)) (X := Y 1 (org 1 0 c)) rfl rfl (b := 12) rfl rfl)
    isplitl [HSt]
    · isplitr; · iexact HR
      iexact HSt
    iintro ⟨HSt, D10⟩
    sl_exec_parts (disch := decide)
    iapply (do_depart Y K c 2 (m := slotM rM 0 1 (by decide) (by decide)) (X := Y 2 (org 2 0 c)) rfl rfl (b := 12) rfl rfl)
    isplitl [HSt]
    · isplitr; · iexact HR
      iexact HSt
    iintro ⟨HSt, D20⟩
    sl_exec_parts (disch := decide)
    iapply (do_depart Y K c 3 (m := slotM lM 0 1 (by decide) (by decide)) (X := Y 3 (org 3 0 c)) rfl rfl (b := 12) rfl rfl)
    isplitl [HSt]
    · isplitr; · iexact HR
      iexact HSt
    iintro ⟨HSt, D30⟩
    sl_exec_parts (disch := decide)
    iapply (do_depart Y K c 4 (m := slotM rM 1 0 (by decide) (by decide)) (X := Y 0 (org 0 1 c)) rfl rfl (b := 12) rfl rfl)
    isplitl [HSt]
    · isplitr; · iexact HR
      iexact HSt
    iintro ⟨HSt, D01⟩
    sl_exec_parts (disch := decide)
    iapply (do_depart Y K c 5 (m := slotM lM 1 0 (by decide) (by decide)) (X := Y 1 (org 1 1 c)) rfl rfl (b := 12) rfl rfl)
    isplitl [HSt]
    · isplitr; · iexact HR
      iexact HSt
    iintro ⟨HSt, D11⟩
    sl_exec_parts (disch := decide)
    iapply (do_depart Y K c 6 (m := slotM rM 1 1 (by decide) (by decide)) (X := Y 2 (org 2 1 c)) rfl rfl (b := 12) rfl rfl)
    isplitl [HSt]
    · isplitr; · iexact HR
      iexact HSt
    iintro ⟨HSt, D21⟩
    sl_exec_parts (disch := decide)
    iapply (do_depart Y K c 7 (m := slotM lM 1 1 (by decide) (by decide)) (X := Y 3 (org 3 1 c)) rfl rfl (b := 12) rfl rfl)
    isplitl [HSt]
    · isplitr; · iexact HR
      iexact HSt
    iintro ⟨HSt, D31⟩
    sl_exec_parts (disch := decide)
    iapply (do_depart Y K c 8 (m := slotM rM 2 0 (by decide) (by decide)) (X := Y 0 (org 0 2 c)) rfl rfl (b := 12) rfl rfl)
    isplitl [HSt]
    · isplitr; · iexact HR
      iexact HSt
    iintro ⟨HSt, D02⟩
    sl_exec_parts (disch := decide)
    iapply (do_depart Y K c 9 (m := slotM lM 2 0 (by decide) (by decide)) (X := Y 1 (org 1 2 c)) rfl rfl (b := 12) rfl rfl)
    isplitl [HSt]
    · isplitr; · iexact HR
      iexact HSt
    iintro ⟨HSt, D12⟩
    sl_exec_parts (disch := decide)
    iapply (do_depart Y K c 10 (m := slotM rM 2 1 (by decide) (by decide)) (X := Y 2 (org 2 2 c)) rfl rfl (b := 12) rfl rfl)
    isplitl [HSt]
    · isplitr; · iexact HR
      iexact HSt
    iintro ⟨HSt, D22⟩
    sl_exec_parts (disch := decide)
    iapply (do_depart Y K c 11 (m := slotM lM 2 1 (by decide) (by decide)) (X := Y 3 (org 3 2 c)) rfl rfl (b := 12) rfl rfl)
    isplitl [HSt]
    · isplitr; · iexact HR
      iexact HSt
    iintro ⟨HSt, D32⟩
    sl_exec_parts (disch := decide)
    ihave B00 := (half_back c _ _) $$ [D00 R00]
    · isplitl [D00]; · iexact D00
      iexact R00
    ihave B01 := (half_back c _ _) $$ [D01 R01]
    · isplitl [D01]; · iexact D01
      iexact R01
    ihave B02 := (half_back c _ _) $$ [D02 R02]
    · isplitl [D02]; · iexact D02
      iexact R02
    ihave B03 := (holds_blank c _ _) $$ M0
    ihave B10 := (half_back c _ _) $$ [D10 R10]
    · isplitl [D10]; · iexact D10
      iexact R10
    ihave B11 := (half_back c _ _) $$ [D11 R11]
    · isplitl [D11]; · iexact D11
      iexact R11
    ihave B12 := (half_back c _ _) $$ [D12 R12]
    · isplitl [D12]; · iexact D12
      iexact R12
    ihave B13 := (holds_blank c _ _) $$ M1
    ihave B20 := (half_back c _ _) $$ [D20 R20]
    · isplitl [D20]; · iexact D20
      iexact R20
    ihave B21 := (half_back c _ _) $$ [D21 R21]
    · isplitl [D21]; · iexact D21
      iexact R21
    ihave B22 := (half_back c _ _) $$ [D22 R22]
    · isplitl [D22]; · iexact D22
      iexact R22
    ihave B23 := (holds_blank c _ _) $$ M2
    ihave B30 := (half_back c _ _) $$ [D30 R30]
    · isplitl [D30]; · iexact D30
      iexact R30
    ihave B31 := (half_back c _ _) $$ [D31 R31]
    · isplitl [D31]; · iexact D31
      iexact R31
    ihave B32 := (half_back c _ _) $$ [D32 R32]
    · isplitl [D32]; · iexact D32
      iexact R32
    ihave B33 := (holds_blank c _ _) $$ M3
    ihave Ho := (laid_out c o _ (View.cover_of_tiled _ ![1, 512, 768] rfl)) $$ Ho
    rw [wp_ret]; imodintro
    unfold left
    isplitl [HSt]; · iexact HSt
    isplitl [Hbar]; · iexact Hbar
    isplitl [B00 B20 B01 B21 B02 B22 B03 B23]
    · rw [blanks8_list]
      isplitl [B00]; · iexact B00
      isplitl [B20]; · iexact B20
      isplitl [B01]; · iexact B01
      isplitl [B21]; · iexact B21
      isplitl [B02]; · iexact B02
      isplitl [B22]; · iexact B22
      isplitl [B03]; · iexact B03
      iexact B23
    isplitl [B10 B30 B11 B31 B12 B32 B13 B33]
    · rw [blanks8_list]
      isplitl [B10]; · iexact B10
      isplitl [B30]; · iexact B30
      isplitl [B11]; · iexact B11
      isplitl [B31]; · iexact B31
      isplitl [B12]; · iexact B12
      isplitl [B32]; · iexact B32
      isplitl [B13]; · iexact B13
      iexact B33
    isplitl [Hx]; · iexact Hx
    isplitl [Hw]; · iexact Hw
    isplitl [Hk]; · iexact Hk
    isplitl [Hv]; · iexact Hv
    isplitl [Hwo]; · iexact Hwo
    isplitl [Ho]; · iexact Ho
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Ring

end
-- ==== Proof.Ghost.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Entry

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ

variable (Y : ℕ → Dev nD → Vec F S512x512 .bf16) (K : Dev nD × Fin 33 → ℕ)

/-! # What the launch deals to each device -/

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : ∀ a b : Fin 33, csem a = csem b → a = b := by decide
  rw [h3 k k' h2]
def ringCells : Finset (GSem nD τ sig) := Finset.univ.map ⟨kcell, kcell_injective⟩
/-- Both duties of every cell, used or not. -/
def tokOf (x : (Dev nD × Fin 33) × Bool) : GSem nD τ sig × ℕ × Bool := (kcell x.1, 0, x.2)
theorem tokOf_injective : Function.Injective tokOf := by
  rintro ⟨a, b⟩ ⟨a', b'⟩ h
  have h1 : kcell a = kcell a' := congrArg (fun x : GSem nD τ sig × ℕ × Bool => x.1) h
  have h2 : b = b' := congrArg (fun x : GSem nD τ sig × ℕ × Bool => x.2.2) h
  rw [kcell_injective h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem kS_inj : Function.Injective kS := by decide
theorem kR_inj : Function.Injective kR := by decide
theorem spare_inj : Function.Injective spare := by decide
theorem cells_split : (Finset.univ : Finset (Fin 33)) = insert 0 (Finset.univ.map ⟨kS, kS_inj⟩ ∪ (Finset.univ.map ⟨kR, kR_inj⟩ ∪ Finset.univ.map ⟨spare, spare_inj⟩)) := by decide

omit [FloatOps F] [Named F] in
/-- A device's cells: the barrier's, the departures', the landings', the unused ones. -/
theorem cells33 (Φ : Fin 33 → sProp 𝕄) : bigSep Finset.univ Φ =
    iprop(Φ 0 ∗ (bigSep Finset.univ fun j : Fin 12 => Φ (kS j)) ∗ (bigSep Finset.univ fun j : Fin 12 => Φ (kR j)) ∗ bigSep Finset.univ fun i : Fin 8 => Φ (spare i)) := by
  rw [cells_split, BI.bigSep_insert (by decide), BI.bigSep_union (by decide), BI.bigSep_union (by decide), bigSep_map, bigSep_map, bigSep_map]
  rfl

omit [FloatOps F] [Named F] in
theorem cells33' (Ψ : GSem nD τ sig → sProp 𝕄) (c : Dev nD) : (bigSep Finset.univ fun k : Fin 33 => Ψ (kcell (c, k))) =
    iprop(Ψ (barCell c) ∗ (bigSep Finset.univ fun j : Fin 12 => Ψ (sendCell c j)) ∗ (bigSep Finset.univ fun j : Fin 12 => Ψ (recvCell c j))
      ∗ bigSep Finset.univ fun i : Fin 8 => Ψ (kcell (c, spare i))) := by
  rw [cells33, bigSep_congr (s := Finset.univ) (fun (j : Fin 12) _ => congrArg Ψ (kcell_S c j)),
    bigSep_congr (s := Finset.univ) (fun (j : Fin 12) _ => congrArg Ψ (kcell_R c j))]
  rfl

/-- The tokens of device `c`'s own cells. -/
def toks (c : Dev nD) : sProp 𝕄 :=
  bigSep Finset.univ fun k : Fin 33 => iprop(dutyTok ER (kcell (c, k)) 0 true ∗ dutyTok ER (kcell (c, k)) 0 false)
/-- Its positions. -/
def poss (c : Dev nD) : sProp 𝕄 := bigSep Finset.univ fun k : Fin 33 => atPos ER (kcell (c, k)) 0 ∅ 0

/-- What the launch element deals device `c`. -/
def G (c : Dev nD) : sProp 𝕄 :=
  iprop((bigSep Finset.univ fun k : Fin 33 => roundState ER (ringRd Y) (kcell (c, k)) 0) ∗ poss c
    ∗ (bigSep Finset.univ fun k : Fin 33 => reached ER (kcell (c, k)) 0) ∗ toks c)

omit [FloatOps F] [Named F] in
theorem over_cells (Φ : GSem nD τ sig → sProp 𝕄) : bigSep ringCells Φ = bigSep Finset.univ fun c : Dev nD => bigSep Finset.univ fun k : Fin 33 => Φ (kcell (c, k)) := by
  unfold ringCells; rw [bigSep_map, bigSep_univ_prod]; rfl
omit [FloatOps F] [Named F] in
theorem over_toks : (bigSep ringToks fun x => (dutyTok ER x.1 x.2.1 x.2.2 : sProp 𝕄)) = bigSep Finset.univ fun c : Dev nD => toks c := by
  unfold ringToks; rw [bigSep_map, bigSep_univ_prod, bigSep_univ_prod]
  refine bigSep_congr fun c _ => ?_
  unfold toks
  refine bigSep_congr fun k _ => ?_
  rw [bigSep_univ_eq_bigSepL [true, false] (by decide) (by decide), bigSepL_cons_cons, bigSepL_singleton]
  rfl

omit [FloatOps F] [Named F] in
theorem fund_ring : BI.own (ER (initOf ringCells ringToks)) ⊢ (|==> bigSep Finset.univ (G Y) : sProp 𝕄) := by
  iintro HX
  imod (Rounds.fund ER (ringRd Y) ringCells ringToks) $$ HX with ⟨Hst, Hr, Hat, Htok⟩
  imodintro
  ihave Hst' := (Entails.of_eq (over_cells fun g => roundState ER (ringRd Y) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; rw [bigSep_sep', bigSep_sep', bigSep_sep']
  isplitl [Hst']; · iexact Hst'
  isplitl [Hat']; · unfold poss; iexact Hat'
  isplitl [Hr']; · iexact Hr'
  iexact Htok'

/-! ## The tokens around the ring -/

/-- The tokens device `c` pays with, and its own positions. -/
def lin (c : Dev nD) : sProp 𝕄 :=
  iprop(dutyTok ER (barCell (prv c)) 0 true ∗ dutyTok ER (barCell (nxt c)) 0 false ∗ atPos ER (barCell c) 0 ∅ 0
    ∗ bigSep Finset.univ (sendG c) ∗ (bigSep Finset.univ fun j : Fin 12 => atPos ER (recvCell c j) 0 ∅ 0)
    ∗ bigSep Finset.univ fun i : Fin 8 => atPos ER (kcell (c, spare i)) 0 ∅ 0)

omit [FloatOps F] [Named F] in
theorem toks_some (c : Dev nD) : (toks c : sProp 𝕄) ⊢ iprop(dutyTok ER (barCell c) 0 true ∗ dutyTok ER (barCell c) 0 false
    ∗ (bigSep Finset.univ fun j : Fin 12 => dutyTok ER (sendCell c j) 0 false) ∗ bigSep Finset.univ fun j : Fin 12 => dutyTok ER (recvCell c j) 0 false) := by
  unfold toks
  rw [cells33' (fun g => iprop(dutyTok ER g 0 true ∗ dutyTok ER g 0 false)) c, bigSep_sep', bigSep_sep']
  iintro ⟨⟨H1, H2⟩, ⟨-, H3⟩, ⟨-, H4⟩, -⟩
  isplitl [H1]; · iexact H1
  isplitl [H2]; · iexact H2
  isplitl [H3]; · iexact H3
  iexact H4

omit [FloatOps F] [Named F] in
theorem recv_around : (bigSep Finset.univ fun c : Dev nD => bigSep Finset.univ fun j : Fin 12 => (dutyTok ER (recvCell c j) 0 false : sProp 𝕄))
    = bigSep Finset.univ fun c : Dev nD => bigSep Finset.univ fun j : Fin 12 => dutyTok ER (recvCell (peer (lane j) c) j) 0 false := by
  rw [BI.bigSep_univ_comm, BI.bigSep_univ_comm (fun (c : Dev nD) (j : Fin 12) => (dutyTok ER (recvCell (peer (lane j) c) j) 0 false : sProp 𝕄))]
  exact bigSep_congr fun j _ => bigSep_univ_equiv (laneRing (lane j)) (fun c : Dev nD => (dutyTok ER (recvCell c j) 0 false : sProp 𝕄))

omit [FloatOps F] [Named F] in
theorem deal : (iprop((bigSep Finset.univ fun c : Dev nD => poss c) ∗ bigSep Finset.univ fun c : Dev nD => toks c) : sProp 𝕄)
    ⊢ bigSep Finset.univ fun c : Dev nD => lin c := by
  have ht : (bigSep Finset.univ fun c : Dev nD => (toks c : sProp 𝕄)) ⊢ _ := bigSep_mono fun c _ => toks_some c
  refine (BIClass.sep_mono .rfl ht).trans ?_
  have hp : ∀ c : Dev nD, (poss c : sProp 𝕄) = _ := fun c => by unfold poss; exact cells33' (fun g => atPos ER g 0 ∅ 0) c
  unfold lin
  have hs : ∀ c : Dev nD, (bigSep Finset.univ (sendG c) : sProp 𝕄) = iprop((bigSep Finset.univ fun j : Fin 12 => atPos ER (sendCell c j) 0 ∅ 0)
      ∗ (bigSep Finset.univ fun j : Fin 12 => dutyTok ER (sendCell c j) 0 false) ∗ bigSep Finset.univ fun j : Fin 12 => dutyTok ER (recvCell (peer (lane j) c) j) 0 false) := fun c => by
    rw [← bigSep_sep', ← bigSep_sep']; rfl
  simp only [hp, hs, bigSep_sep']
  rw [bigSep_univ_equiv ring.symm (fun c : Dev nD => (dutyTok ER (barCell c) 0 true : sProp 𝕄)),
    bigSep_univ_equiv ring (fun c : Dev nD => (dutyTok ER (barCell c) 0 false : sProp 𝕄)), recv_around]
  iintro ⟨⟨Hb, HS, HV, HX⟩, HT, HFa, H1, H2⟩
  isplitl [HT]; · iexact HT
  isplitl [HFa]; · iexact HFa
  isplitl [Hb]; · iexact Hb
  isplitl [HS H1 H2]
  · isplitl [HS]; · iexact HS
    isplitl [H1]; · iexact H1
    iexact H2
  isplitl [HV]; · iexact HV
  iexact HX

/-! ## The cells' invariants -/

omit [FloatOps F] [Named F] in
theorem sems_own (c : Dev nD) : iprop(Pipeline.ownSems0 (Ix := Unit) (Name := ℕ) (U := UU) (Lvl := ℕ) (Val := Elt F) (τ := τ) osem c ∗ unscopedSems0 c)
      = (bigSep Finset.univ fun k : Fin 33 => semVal (kcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  have hs : (Finset.univ : Finset (Fin 33)) = insert 0 (Finset.univ.map ⟨Fin.succ, Fin.succ_injective 32⟩) := by decide
  rw [hu, hs, BI.bigSep_insert (by decide), bigSep_map]
  have hk : ∀ k : Fin 32, csem k.succ = osem k := by decide
  have hk' : (bigSep Finset.univ fun k : Fin 32 => semVal (kcell (c, (⟨Fin.succ, Fin.succ_injective 32⟩ : Fin 32 ↪ Fin 33) k)) 0 : sProp 𝕄)
      = Pipeline.ownSems0 (Ix := Unit) (Name := ℕ) (U := UU) (Lvl := ℕ) (Val := Elt F) (τ := τ) osem c := by
    unfold Pipeline.ownSems0
    exact bigSep_congr fun k _ => by show semVal ((c : Thread nD τ), csem k.succ) 0 = _; rw [hk]
  rw [hk']
  exact equiv_iff.mp ⟨BI.sep_comm, BI.sep_comm⟩

omit [FloatOps F] [Named F] in
theorem core_alloc (c : Dev nD) :
    iprop(Pipeline.ownSems0 (Ix := Unit) (Name := ℕ) (U := UU) (Lvl := ℕ) (Val := Elt F) (τ := τ) osem c ∗ unscopedSems0 c ∗ G Y c)
      ⊢ |={Set.univ}=> iprop((bigSep Finset.univ fun k => iprop(∃ κ : ℕ, cellInv ER (ringRd Y) κ (kcell (c, k))))
          ∗ poss c ∗ (bigSep Finset.univ fun k : Fin 33 => reached ER (kcell (c, k)) 0) ∗ toks c) := by
  unfold G
  iintro ⟨Hos, Hus, Hst, Hat, Hr, Htok⟩
  ihave Hv := (Entails.of_eq (sems_own (F := F) c)) $$ [Hos Hus]
  · isplitl [Hos]; · iexact Hos
    iexact Hus
  have ha : iprop((bigSep Finset.univ fun k : Fin 33 => semVal (kcell (c, k)) 0) ∗ bigSep Finset.univ fun k : Fin 33 => roundState ER (ringRd Y) (kcell (c, k)) 0)
      ⊢ (|={Set.univ}=> bigSep Finset.univ fun k => iprop(∃ κ : ℕ, cellInv ER (ringRd Y) κ (kcell (c, k))) : sProp 𝕄) := by
    rw [← bigSep_sep']
    exact (bigSep_mono fun k _ => (Rounds.body_intro ER (ringRd Y) (kcell (c, k))).trans inv_alloc).trans (bigSep_fupd _ _)
  imod ha $$ [Hv Hst] with Hinv
  · isplitl [Hv]; · iexact Hv
    iexact Hst
  imodintro
  isplitl [Hinv]; · iexact Hinv
  isplitl [Hat]; · iexact Hat
  isplitl [Hr]; · iexact Hr
  iexact Htok

/-- The invariants and the first-round marks, of every device. -/
def recs : sProp 𝕄 :=
  iprop((bigSep Finset.univ fun ck : Dev nD × Fin 33 => cellInv ER (ringRd Y) (K ck) (kcell ck)) ∗ bigSep Finset.univ fun ck : Dev nD × Fin 33 => reached ER (kcell ck) 0)
omit [FloatOps F] [Named F] in
instance recs_persistent : BI.Persistent (recs (F := F) Y K) := by unfold recs; infer_instance

/-- What the global step makes of it. -/
def G' (c : Dev nD) : sProp 𝕄 := iprop(∃ K, recs Y K ∗ lin c)

omit [FloatOps F] [Named F] in
theorem regroup :
    (bigSep Finset.univ fun c : Dev nD => iprop((bigSep Finset.univ fun k => iprop(∃ κ : ℕ, cellInv ER (ringRd Y) κ (kcell (c, k))))
          ∗ poss c ∗ (bigSep Finset.univ fun k : Fin 33 => reached ER (kcell (c, k)) 0) ∗ toks c) : sProp 𝕄)
      ⊢ bigSep Finset.univ (G' Y) := by
  rw [bigSep_sep', bigSep_sep', bigSep_sep', ← bigSep_univ_prod (fun ck : Dev nD × Fin 33 => iprop(∃ κ : ℕ, cellInv ER (ringRd Y) κ (kcell ck))),
    ← bigSep_univ_prod (fun ck : Dev nD × Fin 33 => (reached ER (kcell ck) 0 : sProp 𝕄))]
  iintro ⟨HI, Hat, #HR, Htok⟩
  ihave HK := (BI.bigSep_exists_pi Finset.univ (fun (ck : Dev nD × Fin 33) (κ : ℕ) => (cellInv ER (ringRd Y) κ (kcell ck) : sProp 𝕄))) $$ HI
  icases HK with ⟨%K, #HI⟩
  ihave Hl := (deal (F := F)) $$ [Hat Htok]
  · isplitl [Hat]; · iexact Hat
    iexact Htok
  have hg : ∀ c : Dev nD, iprop(recs Y K ∗ lin c) ⊢ (G' Y c : sProp 𝕄) := fun c => by
    unfold G'; iintro H; iexists K; iexact H
  iapply (share_all (R := recs Y K) fun c _ => hg c)
  isplitr
  · unfold recs; isplitl; · iexact HI
    iexact HR
  iexact Hl

omit [FloatOps F] [Named F] in
theorem glob : (bigSep Finset.univ fun c => iprop(Pipeline.ownSems0 (Ix := Unit) (Name := ℕ) (U := UU) (Lvl := ℕ) (Val := Elt F) (τ := τ) osem c ∗ unscopedSems0 c ∗ G Y c) : sProp 𝕄)
    ⊢ |={Set.univ}=> bigSep Finset.univ (G' Y) :=
  ((bigSep_mono fun c _ => core_alloc Y c).trans (bigSep_fupd _ _)).trans (BI.fupd_mono (regroup Y))

/-! ## The credit of the launch -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {i j : Fin 12} : Iff (recvCell a i = recvCell b j) (a = b ∧ i = j) :=
  ⟨fun h => ⟨Fin.ext (congrArg (fun g : GSem nD τ sig => g.1.1.val) h), recvS_inj (congrArg Prod.snd h)⟩, fun h => by rw [h.1, h.2]⟩

theorem Owe_apply (d : Dev nD) (g : GSem nD τ sig) : Owe 0 d g () = ∑ j : Fin 12, if g = recvCell (peer (lane j) d) j then N else 0 := by
  unfold Owe
  rw [Finset.sum_apply, Finsupp.finset_sum_apply]
  refine Finset.sum_congr rfl fun j _ => ?_
  rw [if_pos (Nat.zero_le _), tallyAt_apply]
  by_cases h : g = recvCell (peer (lane j) d) j
  · rw [if_pos ⟨h, rfl⟩, if_pos h]
  · rw [if_neg (fun h' => h h'.1), if_neg h]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Owe_apply,
    Finset.sum_eq_zero (fun j _ => if_neg (fun h => recv_ne_bar j (congrArg Prod.snd h).symm)), Nat.zero_add, tallyAt_apply, tallyAt_apply]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_recv (d c : Dev nD) (j : Fin 12) : O₀ d (recvCell c j) () = if d = reep (lane j) c then N else 0 := by
  unfold O₀ O₁
  rw [Pi.add_apply, Finsupp.add_apply, Pi.add_apply, Finsupp.add_apply, Owe_apply,
    tallyAt_ne_cell (fun h => recv_ne_bar j (congrArg Prod.snd h)), tallyAt_ne_cell (fun h => recv_ne_bar j (congrArg Prod.snd h)), Finsupp.zero_apply, Nat.add_zero, Nat.add_zero,
    Finset.sum_eq_single j (fun i _ hi => if_neg (fun h => hi (recv_eq_iff.mp h).2.symm)) (fun h => absurd (Finset.mem_univ j) h)]
  by_cases h : d = reep (lane j) c
  · subst h; rw [peer_reep, if_pos rfl, if_pos rfl]
  · rw [if_neg (fun h1 => h (by rw [(recv_eq_iff.mp h1).1, reep_peer])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (j : Fin 12) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (reep (lane j) c) fun _ => N,
    if_pos (Finset.mem_univ _)]

def recvLoc (j : Fin 12) : SemLoc sig := .dma (recvS j)
theorem recvLoc_inj : Function.Injective recvLoc := fun _ _ h => recvS_inj h
omit [FloatOps F] [Named F] in
theorem creds (c : Dev nD) :
    (Pipeline.launchCred O₀ c : sProp 𝕄) ⊢ iprop(cred (tallyAt (barCell c) () 2) ∗ bigSep Finset.univ fun j : Fin 12 => cred (tallyAt (recvCell c j) () N)) := by
  unfold Pipeline.launchCred
  rw [bigSep_univ_at _ (SemLoc.reg barS), launch_bar]
  refine sep_mono_right ?_
  have hsub : Finset.univ.map ⟨recvLoc, recvLoc_inj⟩ ⊆ (Finset.univ : Finset (SemLoc sig)).erase (.reg barS) := by
    intro x hx
    obtain ⟨j, -, rfl⟩ := Finset.mem_map.mp hx
    exact Finset.mem_erase.mpr ⟨recv_ne_bar j, Finset.mem_univ _⟩
  refine (BI.bigSep_subset hsub).trans ?_
  rw [bigSep_map]
  exact Entails.of_eq (bigSep_congr fun j _ => congrArg cred (launch_recv c j))

end Cert.Ring

end
-- ==== Proof.Launch.lean ====
module
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import proofs.«01_k».proof.Proof.Body
public import proofs.«01_k».proof.Proof.Ghost
public import proofs.«01_k».proof.Proof.Gen.KernelIdeal.Points
public import Idealize.ShloMosaic.Lib.Pipeline.CollectiveSegs

@[expose] public section
noncomputable section
namespace Cert.Ring
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F] [Named F]
attribute [local instance] Cert.KernelIdeal.Gen.facts
local notation "𝕄" => MT nD τ sig Unit (Elt F) ℕ UU ℕ

variable (m : (ℓ : Loc nD τ sig) → Buf (Elt F) ℓ) (ρ : Dev nD → PrngReg)

/-! # The run of the whole program -/

abbrev t₀ : Fin cfg0.N := t0_0
theorem fin_N (t : Fin cfg0.N) : t = t₀ := fin_N0 t

/-! ## The inputs' blocks, what travels, the result -/

def xIn (c : Dev nD) : Vec F S2x512x768 .f32 := (win0_0.blk (0 : Fin 1)).view.read (Elt F) (m ((c : Thread nD τ).loc main_arg0))
def wIn (c : Dev nD) : Vec F S768x512 .f32 := (win0_1.blk (0 : Fin 1)).view.read (Elt F) (m ((c : Thread nD τ).loc main_arg1))
def kIn (c : Dev nD) : Vec F S2x512x8x64 .f32 := (win0_2.blk (0 : Fin 1)).view.read (Elt F) (m ((c : Thread nD τ).loc main_arg2))
def vIn (c : Dev nD) : Vec F S2x512x8x64 .f32 := (win0_3.blk (0 : Fin 1)).view.read (Elt F) (m ((c : Thread nD τ).loc main_arg3))
def oIn (c : Dev nD) : Vec F S512x768 .f32 := (win0_4.blk (0 : Fin 1)).view.read (Elt F) (m ((c : Thread nD τ).loc main_arg4))

/-- What lane `l` carries for device `o`: its own keys or values, packed. -/
def Yof (l : ℕ) (o : Dev nD) : Vec F S512x512 .bf16 :=
  match l with
  | 0 => permB o (mat0 (kIn m o))
  | 1 => permB o (mat1 (kIn m o))
  | 2 => permB o (mat2 (vIn m o))
  | _ => permB o (mat3 (vIn m o))
/-- Device `c`'s result. -/
def outAt (c : Dev nD) : Vec F S2x512x768 .f32 :=
  (bodyRun (Yof m) c (xIn m c) (wIn m c) (kIn m c) (vIn m c) (oIn m c) c rfl).1

/-! ## The pipeline's proof data -/

/-- What device `c`'s body starts from. -/
def start (c : Dev nD) : sProp 𝕄 :=
  iprop((∃ K, records (Yof m) K ∗ lin c) ∗ cred (tallyAt (barCell c) () 2) ∗ bigSep Finset.univ fun j : Fin 12 => cred (tallyAt (recvCell c j) () N))
def Φ₀ (c : Dev nD) : sProp 𝕄 := iprop(start m c ∗ Pipeline.scopedRest spec0 c)
def Φ₁ (c : Dev nD) : sProp 𝕄 := iprop(unscopedSems0 c ∗ Pipeline.ownSems0 osem c ∗ Pipeline.scopedRest spec0 c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => kIn m c
    | ⟨3, _⟩ => vIn m c
    | ⟨4, _⟩ => oIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

omit [FloatOps F] [Named F] in
theorem zeros_all (c : Dev nD) : (zeros c : sProp 𝕄) ⊢ iprop(unscopedSems0 c ∗ Pipeline.ownSems0 osem c) := by
  have h : (zeros c : sProp 𝕄) = _ := (cells33' (fun g => semVal g 0) c).symm.trans (sems_own c).symm
  rw [h]; exact sep_symm

omit [FloatOps F] [Named F] in
theorem recv_start (c : Dev nD) : (iprop((bigSep Finset.univ fun j : Fin 12 => atPos ER (recvCell c j) 0 ∅ 0)
    ∗ bigSep Finset.univ fun j : Fin 12 => cred (tallyAt (recvCell c j) () N)) : sProp 𝕄) ⊢ bigSep Finset.univ (recvSt 0 c) := by
  rw [← bigSep_sep']
  exact Entails.of_eq (bigSep_congr fun j _ => by unfold recvSt; rw [if_neg (Nat.not_lt_zero _)])

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xIn m c) ∗ stg c cc0_stg1_0 (wIn m c) ∗ stg c cc0_stg2_0 (kIn m c)
    ∗ stg c cc0_stg3_0 (vIn m c) ∗ stg c cc0_stg4_0 (oIn m c) ∗ stg c cc0_stg5_0 (outAt m c))

/-- What the body leaves, made the obligation's. -/
theorem leave (K : Dev nD × Fin 33 → ℕ) (c : Dev nD) (r0 : Buf (Elt F) ((c : Thread nD τ).loc cc0_scratch0)) (r1 : Buf (Elt F) ((c : Thread nD τ).loc cc0_scratch1)) :
    iprop((records (Yof m) K ∗ bigSep Finset.univ fun i : Fin 8 => atPos ER (kcell (c, spare i)) 0 ∅ 0)
      ∗ left c (xIn m c) (wIn m c) (kIn m c) (vIn m c) (oIn m c) (outAt m c)) ⊢ (iprop(|={Set.univ}=> bodyPost m ρ c) : sProp 𝕄) := by
  unfold left
  iintro ⟨⟨#HR, HX⟩, HSt, Hb, HrM, HlM, H0, H1, H2, H3, H4, H5, S2, S3, S4, S5, S6, S7, S8, S9⟩
  ihave HSt := (St_done (F := F) c) $$ HSt
  icases HSt with ⟨⟨%W, HO⟩, HS, HV⟩
  imod (close_all (Yof m) K c) $$ [HX Hb HS HV] with Hz
  · isplitr; · iexact HR
    unfold doneG
    isplitl [Hb]; · iexact Hb
    isplitl [HS]; · iexact HS
    isplitl [HV]; · iexact HV
    iexact HX
  ihave Hz := (zeros_all (F := F) c) $$ Hz
  icases Hz with ⟨Hu, Ho⟩
  ihave HrM := (to_whole c rM box8_cover_r r0) $$ HrM
  ihave HlM := (to_whole c lM box8_cover_l r1) $$ HlM
  imodintro
  unfold bodyPost Φ₁ Pipeline.Dat.owesAt Pipeline.owesWithin
  rw [scopedRest0_eq, show (dats m ρ 0 c).owed t₀.succ = 0 from rfl]
  isplitl [Hu Ho HrM HlM S2 S3 S4 S5 S6 S7 S8 S9]
  · isplitl [Hu]; · iexact Hu
    isplitl [Ho]; · iexact Ho
    isplitl [HrM]; · iexact HrM
    isplitl [HlM]; · iexact HlM
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem wp_fupd_of {p : Prog (TpuEff nD τ sig (Elt F) Λ₀ .tc) PUnit} {c : Dev nD} {A P Q Q' : sProp 𝕄}
    (hb : P ⊢ wp frame (wpE (defs₀ (F := F)) 𝒱₀ (c : Thread nD τ) none) Set.univ p (fun _ => Q)) (hl : iprop(A ∗ Q) ⊢ iprop(|={Set.univ}=> Q')) :
    iprop(A ∗ P) ⊢ wp frame (wpE (defs₀ (F := F)) 𝒱₀ (c : Thread nD τ) none) Set.univ p (fun _ => Q') :=
  (sep_mono_right hb).trans ((wp_frame_l _ _ _).trans ((wp_mono _ _ _ fun _ => hl).trans (wp_fupd _ _ _ _ _)))

theorem sound_body (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => bodyPost m ρ c) := by
  unfold bodyPre Φ₀ start lin Pipeline.Dat.owesAt Pipeline.owesWithin
  rw [scopedRest0_eq, show (dats m ρ 0 c).owed t₀.castSucc = O₀ c from rfl]
  iintro ⟨⟨⟨⟨%K, #HR, Ht1, Ht2, Hb, HS, HV, HX⟩, Hcb, Hcr⟩, ⟨%r0, Hr0⟩, ⟨%r1, Hr1⟩, ⟨%s2, S2⟩, ⟨%s3, S3⟩, ⟨%s4, S4⟩, ⟨%s5, S5⟩, ⟨%s6, S6⟩, ⟨%s7, S7⟩, ⟨%s8, S8⟩, ⟨%s9, S9⟩⟩,
    ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xIn m c := by rw [h0]; unfold Pipeline.Dat.before; rw [if_pos (fetch0_0 t₀)]; rfl
  have e1 : g1 = wIn m c := by rw [h1]; unfold Pipeline.Dat.before; rw [if_pos (fetch0_1 t₀)]; rfl
  have e2 : g2 = kIn m c := by rw [h2]; unfold Pipeline.Dat.before; rw [if_pos (fetch0_2 t₀)]; rfl
  have e3 : g3 = vIn m c := by rw [h3]; unfold Pipeline.Dat.before; rw [if_pos (fetch0_3 t₀)]; rfl
  have e4 : g4 = oIn m c := by rw [h4]; unfold Pipeline.Dat.before; rw [if_pos (fetch0_4 t₀)]; rfl
  subst e0 e1 e2 e3 e4
  ihave HV := (recv_start (F := F) c) $$ [HV Hcr]
  · isplitl [HV]; · iexact HV
    iexact Hcr
  ihave HrM := (whole_to c rM box8_cover_r) $$ [Hr0]
  · iexists r0; iexact Hr0
  ihave HlM := (whole_to c lM box8_cover_l) $$ [Hr1]
  · iexists r1; iexact Hr1
  have hb := (bodyRun (Yof m) c (xIn m c) (wIn m c) (kIn m c) (vIn m c) (oIn m c) c rfl).2 K g5 rfl rfl rfl rfl s2 s3 s4 s5 s6 s7 s8 s9
  iapply (wp_fupd_of hb (leave m ρ K c r0 r1))
  isplitl [HX]
  · isplitr; · iexact HR
    iexact HX
  isplitr; · iexact HR
  isplitl [HO]; · iexists W; iexact HO
  isplitl [Ht1]; · iexact Ht1
  isplitl [Ht2]; · iexact Ht2
  isplitl [Hcb]; · iexact Hcb
  isplitl [Hb]; · iexact Hb
  isplitl [HS]; · iexact HS
  isplitl [HV]; · iexact HV
  isplitl [HrM]; · iexact HrM
  isplitl [HlM]; · iexact HlM
  isplitl [H0]; · iexact H0
  isplitl [H1]; · iexact H1
  isplitl [H2]; · iexact H2
  isplitl [H3]; · iexact H3
  isplitl [H4]; · iexact H4
  isplitl [H5]; · iexact H5
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

set_option maxRecDepth 4000 in
theorem body_obligation (c : Dev nD) : Pipeline.BodyObligation (dats (F := F) m ρ 0 c) (defs₀ (F := F)) 𝒱₀ () Set.univ := fun t => by
  rw [fin_N t]
  rw [bigSep_W0, bigSep_W0]
  simp only [owns_whole_eq]
  exact sound_body m ρ c

/-! ## The launch -/

theorem ownSemFacts : Pipeline.OwnSemFacts cfg0.spec osem := by decide
theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Yof m) c)
      ⊢ (iprop(|={Set.univ}=> (start m c ∗ emp)) : sProp 𝕄) := by
  iintro ⟨-, Hlev, Hcr, -, HG⟩
  ihave Hc := (creds (F := F) c) $$ Hcr
  icases Hc with ⟨H1, HN⟩
  unfold G' recs
  icases HG with ⟨%K, ⟨HI, HR⟩, Hl⟩
  imodintro
  unfold start records
  isplitl
  · isplitl [Hlev HI HR Hl]
    · iexists K
      isplitl [Hlev HI HR]
      · isplitl [HI]; · iexact HI
        isplitl [HR]; · iexact HR
        iexact Hlev
      iexact Hl
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m c from rfl]
  unfold Φ₀
  iintro ⟨Hs, -, Hr⟩
  isplitl [Hs]; · iexact Hs
  iexact Hr

theorem phi1_exit (c : Dev nD) :
    ((dats m ρ 0 c).Φ (Fin.last cfg0.N) : sProp 𝕄) ⊢ iprop(unscopedSems0 c ∗ Pipeline.ownSems0 osem c ∗ Pipeline.scopedRest cfg0.spec c) := by
  rw [show (dats m ρ 0 c).Φ (Fin.last cfg0.N) = Φ₁ c from rfl]
  unfold Φ₁; exact .rfl

theorem lv_stage (q : Fin 38) (hq : q.val < 6) (c : Dev nD) : lv ((c : Thread nD τ), .dma q) () ≤ 0 := by
  have h : ¬ ∃ j, IsRecv ((c : Thread nD τ), (SemLoc.dma q : SemLoc sig)) j := by
    rintro ⟨j, h⟩
    have h' : q.val = recvN j := congrArg Fin.val (SemLoc.dma.inj h)
    rw [h'] at hq; exact absurd hq (by unfold recvN; omega)
  unfold lv; rw [if_neg (fun h => by cases h), dif_neg h]

theorem waits (c : Dev nD) : (levAts L lv : sProp 𝕄) ⊢ Pipeline.cellsWaits cfgs (dats m ρ) () 0 c :=
  Pipeline.cellsWaits_intro cfgs (dats m ρ) () 0 c fun w s t => by
    have hq : ∀ (w : Fin 6) (s : Fin (cfg0.win w).nbuf), ((cfg0.win w).sem s : Fin 38).val < 6 := by decide
    rcases t with ⟨_ | _, ht⟩
    · exact mayWait_cut c _ _ 0 (lv_stage _ (hq w s) c) fun g u hg => O₀_pos hg
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every fair execution ends, with each
    device's result array as computed, its inputs unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Yof m)) (G' := G' (Yof m)) (u₀ := u₀)
    (hu₀ := by
      unfold u₀
      iintro Hu
      ihave H := (ownU_pair _ _) $$ Hu
      icases H with ⟨HP, HX⟩
      imod (fund_ring (Yof m)) $$ HX with HG
      imodintro
      isplitl [HP] <;> iassumption)
    (hglob := glob (Yof m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_in (c : Dev nD) (w : Fin 6) (hw : w ≠ 5) : finalA m ρ c w = (s₀ m ρ).mem ((cfg0.win w).arr.view.loc (c : Thread nD τ)) :=
  (dats (F := F) m ρ 0 c).arrAt_in w (by revert w; decide) _

/-- The arguments' arrays are as launched. -/
theorem inputs_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c (0 : Fin 6)).trans (finalA_in m ρ c 0 (by decide)), (h c (1 : Fin 6)).trans (finalA_in m ρ c 1 (by decide)),
    (h c (2 : Fin 6)).trans (finalA_in m ρ c 2 (by decide)), (h c (3 : Fin 6)).trans (finalA_in m ρ c 3 (by decide)),
    (h c (4 : Fin 6)).trans (finalA_in m ρ c 4 (by decide))⟩

end Cert.Ring

end
-- ==== Proof.Printed.lean ====
module

public import proofs.«01_k».proof.Defs
public import proofs.«01_k».proof.Proof.Gen.Kernel
public import proofs.«01_k».proof.Proof.Gen.KernelIdeal
public import proofs.«01_k».proof.Proof.Launch
public import Idealize.ShloMosaic.Adequacy
public import Idealize.ShloMosaic.Lib.Tactic

@[expose] public section

noncomputable section

namespace Cert.Printed

open Idealize.ShloMosaic Idealize.SL.Sem Idealize.ShloMosaic.Tactic

attribute [local instance] Cert.Kernel.Gen.facts Cert.KernelIdeal.Gen.facts

/-! # The program as printed

It is the text of the idealized one, the named constants read as the numbers they stand for. -/

@[reducible] def namedBits : Named Bits := ⟨fun _ _ _ b => Scalar.ofBits _ b⟩
attribute [local instance] namedBits

/-- The idealized program's run, at words. -/
def AtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem at_bits : AtBits := fun m ρ _ =>
  (θ_run Cert.KernelIdeal.defs _ _).mono (fun _ h => ⟨Cert.Ring.inputs_kept m ρ h.1, h.2⟩) (Cert.Ring.run_main (F := Bits) m ρ)

theorem same_claim : AtBits = Cert.quiescent_Kernel := by sl_kernel_rfl

theorem frame_kernel : Cert.quiescent_Kernel := same_claim.mp at_bits

end Cert.Printed

end
-- ==== Proof.Reads.lean ====
module
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Idealize.ShloMosaic.View (Piece canon)

/-! # What a buffer holds after a list of stores, over the extended reals

A buffer is described by a function of its coordinates as natural numbers. -/

instance : ∀ e, Nonempty (Elt Ideal e) := fun e => by cases e <;> infer_instance

/-- A value of a float type, as the extended real it is. -/
abbrev R16 (x : Elt Ideal .bf16) : EReal := x
abbrev R32 (x : Elt Ideal .f32) : EReal := x

/-- The stores `L` leave `G` in a head-major buffer of rows. -/
def Is4 (L : List (Piece (Elt Ideal) S2x8x512x64 .f32)) (G : ℕ → ℕ → ℕ → ℕ → EReal) : Prop :=
  ∀ (b : Fin 2) (h : Fin 8) (r : Fin 512) (e : Fin 64), R32 (canon L (ix4 b h r e)) = G b h r e
def Is4h (L : List (Piece (Elt Ideal) S2x8x512x64 .bf16)) (G : ℕ → ℕ → ℕ → ℕ → EReal) : Prop :=
  ∀ (b : Fin 2) (h : Fin 8) (r : Fin 512) (e : Fin 64), R16 (canon L (ix4 b h r e)) = G b h r e
def Is3 (L : List (Piece (Elt Ideal) S2x8x512 .f32)) (G : ℕ → ℕ → ℕ → EReal) : Prop :=
  ∀ (b : Fin 2) (h : Fin 8) (r : Fin 512), R32 (canon L (ix3 b h r)) = G b h r

/-- The newest store's box of unit stride decides the coordinates it covers. -/
theorem canon_unit {s : Shape} {e : EltTy} (off size : Fin s.rank → ℕ) (inb) (w : (Rect.unit off size inb).shape.Idx → Elt Ideal e)
    (L : List (Piece (Elt Ideal) s e)) (y : s.Idx) :
    (∀ x : (Rect.unit off size inb).shape.Idx, (∀ a, (y a).val = off a + (x a).val) → canon (⟨Rect.unit off size inb, w⟩ :: L) y = w x)
    ∧ ((¬ ∀ a, off a ≤ (y a).val ∧ (y a).val < off a + size a) → canon (⟨Rect.unit off size inb, w⟩ :: L) y = canon L y) := by
  constructor
  · intro x hx
    have hy : (Rect.unit off size inb).emb x = y := funext fun a => Fin.ext (by
      show off a + 1 * (x a).val = (y a).val
      rw [hx a, Nat.one_mul])
    rw [← hy]; exact View.canon_cons_emb _ _ _ _
  · intro h
    exact View.canon_cons_of_not_mem _ _ fun hm => h ((Rect.mem_set_unit (off := off) (size := size) (inb := inb)).mp hm)

variable {n k : ℕ}

/-- A row strip of one batch, read back: a load of a box, its unit axis dropped. -/
theorem strip4 {M : Memref sig .tc .vmem S2x8x512x64 .bf16} {L : List (Piece (Elt Ideal) S2x8x512x64 .bf16)} {G} (hL : Is4h L G) (b ro : ℕ)
    (inb : ∀ a, (![b, 0, ro, 0] : Fin 4 → ℕ) a + (⟨4, ![1, 8, n, 64]⟩ : Shape).size a ≤ S2x8x512x64.size a)
    (h : (⟨4, ![1, 8, n, 64]⟩ : Shape).ShapeCasts ⟨3, ![8, n, 64]⟩) (hh : Fin 8) (i : Fin n) (e : Fin 64) :
    R16 (shapeCast (⟨3, ![8, n, 64]⟩ : Shape) (M.view.readCov L (Rect.unit (s := S2x8x512x64) ![b, 0, ro, 0] (⟨4, ![1, 8, n, 64]⟩ : Shape).size inb).toLoadRect) h (ix3 hh i e))
      = G b hh (ro + i) e := by
  rw [shapeCast_dropUnit_apply (d := ![8, n, 64]), View.readCov_eq_canon']
  have hb := inb 0; have hr := inb 2
  have hb' : b + 1 ≤ 2 := hb
  have hr' : ro + n ≤ 512 := hr
  have := hL ⟨b, by omega⟩ hh ⟨ro + i, by omega⟩ e
  rw [← this]
  refine congrArg (canon L) (funext fun a => Fin.ext ?_)
  fin_cases a
  · show b + 1 * 0 = b; omega
  · show 0 + 1 * hh.val = hh.val; omega
  · show ro + 1 * i.val = ro + i.val; omega
  · show 0 + 1 * e.val = e.val; omega

/-- The same with the rows cut again. -/
theorem cut4 {M : Memref sig .tc .vmem S2x8x512x64 .bf16} {L : List (Piece (Elt Ideal) S2x8x512x64 .bf16)} {G} (hL : Is4h L G) (b ko : ℕ)
    (inb : ∀ a, (![b, 0, 0, 0] : Fin 4 → ℕ) a + S1x8x512x64.size a ≤ S2x8x512x64.size a)
    (h : S1x8x512x64.ShapeCasts S8x512x64) (hs : S8x512x64.Slices ![0, ko, 0] ⟨3, ![8, k, 64]⟩) (hh : Fin 8) (j : Fin k) (e : Fin 64) :
    R16 (extractStridedSlice (⟨3, ![8, k, 64]⟩ : Shape) ![0, ko, 0] (shapeCast S8x512x64 (M.view.readCov L (Rect.unit (s := S2x8x512x64) ![b, 0, 0, 0] S1x8x512x64.size inb).toLoadRect) h) hs (ix3 hh j e))
      = G b hh (ko + j) e := by
  have hk : ko + k ≤ 512 := hs.2 1
  rw [extractStridedSlice_apply _ _ _ _ (ix3 (n0 := 8) (n1 := 512) (n2 := 64) hh ⟨ko + j, by omega⟩ e) (fun a => by
    fin_cases a
    · show hh.val = 0 + hh.val; omega
    · rfl
    · show e.val = 0 + e.val; omega)]
  refine (strip4 (n := 512) hL b 0 inb h hh _ e).trans ?_
  show G b hh (0 + (ko + j)) e = _
  rw [Nat.zero_add]

/-- The dimension numbers of the scores: rows against rows, head by head. -/
def IsScore (D : DotDims ⟨3, ![8, n, 64]⟩ ⟨3, ![8, k, 64]⟩ ⟨3, ![8, n, k]⟩) : Prop :=
  ∀ (l : FVec Ideal ⟨3, ![8, n, 64]⟩ .bf16) (r : FVec Ideal ⟨3, ![8, k, 64]⟩ .bf16) (h : Fin 8) (i : Fin n) (j : Fin k),
    R32 (matmul D none l r (constant ⟨3, ![8, n, k]⟩ .f32 0#32) (ix3 h i j)) = ∑ d : Fin 64, R16 (l (ix3 h i d)) * R16 (r (ix3 h j d))
/-- The dimension numbers of the weighted rows. -/
def IsWeigh (D : DotDims ⟨3, ![8, n, k]⟩ ⟨3, ![8, k, 64]⟩ ⟨3, ![8, n, 64]⟩) : Prop :=
  ∀ (l : FVec Ideal ⟨3, ![8, n, k]⟩ .bf16) (r : FVec Ideal ⟨3, ![8, k, 64]⟩ .bf16) (h : Fin 8) (i : Fin n) (e : Fin 64),
    R32 (matmul D none l r (constant ⟨3, ![8, n, 64]⟩ .f32 0#32) (ix3 h i e)) = ∑ j : Fin k, R16 (l (ix3 h i j)) * R16 (r (ix3 h j e))

/-- One update of the running sums: batch, stage, rows from `ro` on, `n` of them, keys from `ko` on, `k` of them. -/
structure Upd where
  b : ℕ
  s : ℕ
  ro : ℕ
  n : ℕ
  ko : ℕ
  k : ℕ

/-- The exponential of a score: row `p` against key `j`. -/
def wt (QP KH : ℕ → ℕ → ℕ → ℕ → EReal) (b h p j : ℕ) : EReal := Idealize.ShloMosaic.Ideal.exp (∑ d : Fin 64, QP b h p d * KH b h j d)

/-- What an update adds to the sum of weights. -/
def lAdd (QP : ℕ → ℕ → ℕ → ℕ → EReal) (KH : ℕ → ℕ → ℕ → ℕ → ℕ → EReal) (u : Upd) (b h p : ℕ) : EReal :=
  if b = u.b ∧ u.ro ≤ p ∧ p < u.ro + u.n then ∑ j : Fin u.k, wt QP (KH u.s) b h p (u.ko + j) else 0
/-- What an update adds to the weighted rows. -/
def aAdd (QP : ℕ → ℕ → ℕ → ℕ → EReal) (KH VH : ℕ → ℕ → ℕ → ℕ → ℕ → EReal) (u : Upd) (b h p e : ℕ) : EReal :=
  if b = u.b ∧ u.ro ≤ p ∧ p < u.ro + u.n then ∑ j : Fin u.k, wt QP (KH u.s) b h p (u.ko + j) * VH u.s b h (u.ko + j) e else 0

abbrev Buf4h := List (Piece (Elt Ideal) S2x8x512x64 .bf16)
abbrev Buf4 := List (Piece (Elt Ideal) S2x8x512x64 .f32)
abbrev Buf3 := List (Piece (Elt Ideal) S2x8x512 .f32)

/-- The list of stage `s`. -/
inductive Pick (L1 L2 L3 : Buf4h) : ℕ → Buf4h → Prop
  | one : Pick L1 L2 L3 1 L1
  | two : Pick L1 L2 L3 2 L2
  | three : Pick L1 L2 L3 3 L3

/-- The weights of one update, as the body computes them. -/
abbrev wts (D : DotDims ⟨3, ![8, n, 64]⟩ ⟨3, ![8, k, 64]⟩ ⟨3, ![8, n, k]⟩) (Lq Lk : Buf4h) (b ro ko : ℕ)
    (i1 : ∀ a, (![b, 0, ro, 0] : Fin 4 → ℕ) a + (⟨4, ![1, 8, n, 64]⟩ : Shape).size a ≤ S2x8x512x64.size a)
    (h1 : (⟨4, ![1, 8, n, 64]⟩ : Shape).ShapeCasts ⟨3, ![8, n, 64]⟩)
    (i2 : ∀ a, (![b, 0, 0, 0] : Fin 4 → ℕ) a + S1x8x512x64.size a ≤ S2x8x512x64.size a)
    (h2 : S1x8x512x64.ShapeCasts S8x512x64) (hs : S8x512x64.Slices ![0, ko, 0] ⟨3, ![8, k, 64]⟩) : FVec Ideal ⟨3, ![8, n, k]⟩ .f32 :=
  exp (matmul (φ₁ := .bf16) (φ₂ := .bf16) D none
    (shapeCast (⟨3, ![8, n, 64]⟩ : Shape) ((Memref.whole cc0_scratch3).view.readCov Lq (Rect.unit (s := S2x8x512x64) ![b, 0, ro, 0] (⟨4, ![1, 8, n, 64]⟩ : Shape).size i1).toLoadRect) h1)
    (extractStridedSlice (⟨3, ![8, k, 64]⟩ : Shape) ![0, ko, 0] (shapeCast S8x512x64 ((Memref.whole cc0_scratch4).view.readCov Lk (Rect.unit (s := S2x8x512x64) ![b, 0, 0, 0] S1x8x512x64.size i2).toLoadRect) h2) hs)
    (constant ⟨3, ![8, n, k]⟩ .f32 0#32))

theorem wts_apply {D : DotDims ⟨3, ![8, n, 64]⟩ ⟨3, ![8, k, 64]⟩ ⟨3, ![8, n, k]⟩} (hD : IsScore D) {Lq Lk : Buf4h} {QP KH} (hq : Is4h Lq QP) (hk : Is4h Lk KH)
    (b ro ko : ℕ) (i1 h1 i2 h2 hs) (h : Fin 8) (i : Fin n) (j : Fin k) :
    R32 (wts D Lq Lk b ro ko i1 h1 i2 h2 hs (ix3 h i j)) = wt QP KH b h (ro + i) (ko + j) := by
  unfold wt
  refine congrArg Idealize.ShloMosaic.Ideal.exp ((hD _ _ h i j).trans (Finset.sum_congr rfl fun d _ => ?_))
  rw [strip4 hq b ro i1 h1 h i d, cut4 hk b ko i2 h2 hs h j d]

/-- The updates of the sums of weights, newest first. -/
inductive LpT (Lq L1 L2 L3 : Buf4h) : Buf3 → List Upd → Prop
  | base {inb h} : LpT Lq L1 L2 L3 [⟨Rect.unit (s := S2x8x512) ![0, 0, 0] S2x8x512.size inb, shapeCast S2x8x512 (broadcast (α := Elt Ideal .f32) S2x8x512 (FloatOps.ofBits (F := Ideal) .f32 0#32)) h⟩] []
  | step {L : Buf3} {us : List Upd} {b s ro n ko k : ℕ} {Lk : Buf4h} {D : DotDims ⟨3, ![8, n, 64]⟩ ⟨3, ![8, k, 64]⟩ ⟨3, ![8, n, k]⟩}
      {i1 h1 i2 h2 hs inb inb' h h' p1 p2 p3} (hk : Pick L1 L2 L3 s Lk) (hD : IsScore D) (rest : LpT Lq L1 L2 L3 L us) :
      LpT Lq L1 L2 L3 (⟨Rect.unit (s := S2x8x512) ![b, 0, ro] (⟨3, ![1, 8, n]⟩ : Shape).size inb,
        shapeCast (⟨3, ![1, 8, n]⟩ : Shape) (addf (F := Ideal) (φ := .f32)
          (shapeCast (⟨2, ![8, n]⟩ : Shape) ((Memref.whole cc0_scratch9).view.readCov L (Rect.unit (s := S2x8x512) ![b, 0, ro] (⟨3, ![1, 8, n]⟩ : Shape).size inb').toLoadRect) h')
          (multiReduction .add [2] (⟨2, ![8, n]⟩ : Shape) (wts D Lq Lk b ro ko i1 h1 i2 h2 hs) 0#32 p1 p2 p3)) h⟩ :: L) (⟨b, s, ro, n, ko, k⟩ :: us)

/-- The updates of the weighted rows, newest first. -/
inductive ApT (Lq L1 L2 L3 V1 V2 V3 : Buf4h) : Buf4 → List Upd → Prop
  | base {inb h} : ApT Lq L1 L2 L3 V1 V2 V3 [⟨Rect.unit (s := S2x8x512x64) ![0, 0, 0, 0] S2x8x512x64.size inb, shapeCast S2x8x512x64 (broadcast (α := Elt Ideal .f32) S2x8x512x64 (FloatOps.ofBits (F := Ideal) .f32 0#32)) h⟩] []
  | step {L : Buf4} {us : List Upd} {b s ro n ko k : ℕ} {Lk Lv : Buf4h} {D : DotDims ⟨3, ![8, n, 64]⟩ ⟨3, ![8, k, 64]⟩ ⟨3, ![8, n, k]⟩}
      {E : DotDims ⟨3, ![8, n, k]⟩ ⟨3, ![8, k, 64]⟩ ⟨3, ![8, n, 64]⟩} {i1 h1 i2 h2 hs i3 h3 hs3 inb inb' h h' hb}
      (hk : Pick L1 L2 L3 s Lk) (hv : Pick V1 V2 V3 s Lv) (hD : IsScore D) (hE : IsWeigh E) (rest : ApT Lq L1 L2 L3 V1 V2 V3 L us) :
      ApT Lq L1 L2 L3 V1 V2 V3 (⟨Rect.unit (s := S2x8x512x64) ![b, 0, ro, 0] (⟨4, ![1, 8, n, 64]⟩ : Shape).size inb,
        shapeCast (⟨4, ![1, 8, n, 64]⟩ : Shape) (addf (F := Ideal) (φ := .f32)
          (shapeCast (⟨3, ![8, n, 64]⟩ : Shape) ((Memref.whole cc0_scratch7).view.readCov L (Rect.unit (s := S2x8x512x64) ![b, 0, ro, 0] (⟨4, ![1, 8, n, 64]⟩ : Shape).size inb').toLoadRect) h')
          (matmul (φ₁ := .bf16) (φ₂ := .bf16) E none (truncf .bf16 (wts D Lq Lk b ro ko i1 h1 i2 h2 hs) hb)
            (extractStridedSlice (⟨3, ![8, k, 64]⟩ : Shape) ![0, ko, 0] (shapeCast S8x512x64 ((Memref.whole cc0_scratch5).view.readCov Lv (Rect.unit (s := S2x8x512x64) ![b, 0, 0, 0] S1x8x512x64.size i3).toLoadRect) h3) hs3)
            (constant ⟨3, ![8, n, 64]⟩ .f32 0#32))) h⟩ :: L) (⟨b, s, ro, n, ko, k⟩ :: us)

/-- The three stages' buffers hold `KH 1`, `KH 2`, `KH 3`. -/
def Stages (L1 L2 L3 : Buf4h) (KH : ℕ → ℕ → ℕ → ℕ → ℕ → EReal) : Prop := Is4h L1 (KH 1) ∧ Is4h L2 (KH 2) ∧ Is4h L3 (KH 3)
theorem Pick.is {L1 L2 L3 : Buf4h} {KH} (hS : Stages L1 L2 L3 KH) {s L} (h : Pick L1 L2 L3 s L) : Is4h L (KH s) := by
  cases h
  · exact hS.1
  · exact hS.2.1
  · exact hS.2.2

theorem up3 {α : Type} (v : (⟨2, ![8, n]⟩ : Shape).Idx → α) (h : (⟨2, ![8, n]⟩ : Shape).ShapeCasts ⟨3, ![1, 8, n]⟩) (hh : Fin 8) (i : Fin n) :
    shapeCast (⟨3, ![1, 8, n]⟩ : Shape) v h (ix3 0 hh i) = v (ix2 hh i) :=
  (shapeCast_addUnit_apply (d := ![8, n]) v h _).trans (congrArg v (funext fun a => by fin_cases a <;> rfl))
theorem up4 {α : Type} (v : (⟨3, ![8, n, 64]⟩ : Shape).Idx → α) (h : (⟨3, ![8, n, 64]⟩ : Shape).ShapeCasts ⟨4, ![1, 8, n, 64]⟩) (hh : Fin 8) (i : Fin n) (e : Fin 64) :
    shapeCast (⟨4, ![1, 8, n, 64]⟩ : Shape) v h (ix4 0 hh i e) = v (ix3 hh i e) :=
  (shapeCast_addUnit_apply (d := ![8, n, 64]) v h _).trans (congrArg v (funext fun a => by fin_cases a <;> rfl))
theorem rowSum (v : FVec Ideal ⟨3, ![8, n, k]⟩ .f32) (p1 p2 p3) (h : Fin 8) (i : Fin n) :
    R32 (multiReduction .add [2] (⟨2, ![8, n]⟩ : Shape) v 0#32 p1 p2 p3 (ix2 h i)) = ∑ j : Fin k, R32 (v (ix3 h i j)) := by
  pointwise

/-- A store that adds to what its box held adds on the box and nowhere else. -/
theorem add3 {M : Memref sig .tc .vmem S2x8x512 .f32} {L : Buf3} {G} (hL : Is3 L G) {b ro n : ℕ} {inb inb' h h'} (w : FVec Ideal ⟨2, ![8, n]⟩ .f32) (W : ℕ → ℕ → ℕ → EReal)
    (hw : ∀ (hh : Fin 8) (i : Fin n), R32 (w (ix2 hh i)) = W b hh (ro + i)) :
    Is3 (⟨Rect.unit (s := S2x8x512) ![b, 0, ro] (⟨3, ![1, 8, n]⟩ : Shape).size inb,
        shapeCast (⟨3, ![1, 8, n]⟩ : Shape) (addf (F := Ideal) (φ := .f32)
          (shapeCast (⟨2, ![8, n]⟩ : Shape) (M.view.readCov L (Rect.unit (s := S2x8x512) ![b, 0, ro] (⟨3, ![1, 8, n]⟩ : Shape).size inb').toLoadRect) h') w) h⟩ :: L)
      (fun b' h p => (if b' = b ∧ ro ≤ p ∧ p < ro + n then W b' h p else 0) + G b' h p) := by
  intro b' hh p
  beta_reduce
  obtain ⟨hin, hout⟩ := canon_unit (s := S2x8x512) ![b, 0, ro] (⟨3, ![1, 8, n]⟩ : Shape).size inb _ L (ix3 b' hh p)
  by_cases hc : b'.val = b ∧ ro ≤ p.val ∧ p.val < ro + n
  · rw [if_pos hc]
    obtain ⟨h1, h2, h3⟩ := hc
    refine (hin (ix3 (n0 := 1) (n1 := 8) (n2 := n) 0 hh ⟨p.val - ro, by omega⟩) (fun a => ?_)).trans ?_
    · fin_cases a
      · show b'.val = b + 0; omega
      · show hh.val = 0 + hh.val; omega
      · show p.val = ro + (p.val - ro); omega
    · rw [up3]
      show R32 (shapeCast _ _ h' (ix2 hh _)) + R32 (w (ix2 hh _)) = _
      rw [hw, shapeCast_dropUnit_apply (d := ![8, n]), View.readCov_eq_canon', add_comm]
      refine congr_arg₂ (· + ·) (by rw [h1]; show W b hh (ro + (p.val - ro)) = W b hh p; rw [Nat.add_sub_cancel' h2]) (Eq.trans ?_ (hL b' hh p))
      refine congrArg (canon L) (funext fun a => Fin.ext ?_)
      fin_cases a
      · show b + 1 * 0 = b'.val; omega
      · show 0 + 1 * hh.val = hh.val; omega
      · show ro + 1 * (p.val - ro) = p.val; omega
  · rw [if_neg hc, zero_add, ← hL b' hh p]
    refine hout fun ha => hc ?_
    have h0 := ha 0; have h2 := ha 2
    change b ≤ b'.val ∧ b'.val < b + 1 at h0
    change ro ≤ p.val ∧ p.val < ro + n at h2
    omega
theorem add4 {M : Memref sig .tc .vmem S2x8x512x64 .f32} {L : Buf4} {G} (hL : Is4 L G) {b ro n : ℕ} {inb inb' h h'} (w : FVec Ideal ⟨3, ![8, n, 64]⟩ .f32) (W : ℕ → ℕ → ℕ → ℕ → EReal)
    (hw : ∀ (hh : Fin 8) (i : Fin n) (e : Fin 64), R32 (w (ix3 hh i e)) = W b hh (ro + i) e) :
    Is4 (⟨Rect.unit (s := S2x8x512x64) ![b, 0, ro, 0] (⟨4, ![1, 8, n, 64]⟩ : Shape).size inb,
        shapeCast (⟨4, ![1, 8, n, 64]⟩ : Shape) (addf (F := Ideal) (φ := .f32)
          (shapeCast (⟨3, ![8, n, 64]⟩ : Shape) (M.view.readCov L (Rect.unit (s := S2x8x512x64) ![b, 0, ro, 0] (⟨4, ![1, 8, n, 64]⟩ : Shape).size inb').toLoadRect) h') w) h⟩ :: L)
      (fun b' h p e => (if b' = b ∧ ro ≤ p ∧ p < ro + n then W b' h p e else 0) + G b' h p e) := by
  intro b' hh p e
  beta_reduce
  obtain ⟨hin, hout⟩ := canon_unit (s := S2x8x512x64) ![b, 0, ro, 0] (⟨4, ![1, 8, n, 64]⟩ : Shape).size inb _ L (ix4 b' hh p e)
  by_cases hc : b'.val = b ∧ ro ≤ p.val ∧ p.val < ro + n
  · rw [if_pos hc]
    obtain ⟨h1, h2, h3⟩ := hc
    refine (hin (ix4 (n0 := 1) (n1 := 8) (n2 := n) (n3 := 64) 0 hh ⟨p.val - ro, by omega⟩ e) (fun a => ?_)).trans ?_
    · fin_cases a
      · show b'.val = b + 0; omega
      · show hh.val = 0 + hh.val; omega
      · show p.val = ro + (p.val - ro); omega
      · show e.val = 0 + e.val; omega
    · rw [up4]
      show R32 (shapeCast _ _ h' (ix3 hh _ e)) + R32 (w (ix3 hh _ e)) = _
      rw [hw, shapeCast_dropUnit_apply (d := ![8, n, 64]), View.readCov_eq_canon', add_comm]
      refine congr_arg₂ (· + ·) (by rw [h1]; show W b hh (ro + (p.val - ro)) e = W b hh p e; rw [Nat.add_sub_cancel' h2]) (Eq.trans ?_ (hL b' hh p e))
      refine congrArg (canon L) (funext fun a => Fin.ext ?_)
      fin_cases a
      · show b + 1 * 0 = b'.val; omega
      · show 0 + 1 * hh.val = hh.val; omega
      · show ro + 1 * (p.val - ro) = p.val; omega
      · show 0 + 1 * e.val = e.val; omega
  · rw [if_neg hc, zero_add, ← hL b' hh p e]
    refine hout fun ha => hc ?_
    have h0 := ha 0; have h2 := ha 2
    change b ≤ b'.val ∧ b'.val < b + 1 at h0
    change ro ≤ p.val ∧ p.val < ro + n at h2
    omega

theorem LpT.sound {Lq L1 L2 L3 : Buf4h} {QP KH} (hq : Is4h Lq QP) (hS : Stages L1 L2 L3 KH) {L us} (hT : LpT Lq L1 L2 L3 L us) :
    Is3 L (fun b h p => (us.map fun u => lAdd QP KH u b h p).sum) := by
  induction hT with
  | base =>
    rename_i inb h
    intro b hh p
    have hin := (canon_unit (s := S2x8x512) (e := .f32) ![0, 0, 0] S2x8x512.size inb
      (shapeCast S2x8x512 (broadcast (α := Elt Ideal .f32) S2x8x512 (FloatOps.ofBits (F := Ideal) .f32 0#32)) h) [] (ix3 b hh p)).1 (ix3 b hh p) (fun a => by fin_cases a <;> simp)
    refine hin.trans ?_
    show R32 (FloatOps.ofBits (F := Ideal) .f32 0#32) = _
    exact Ideal.ofBits_zero_f32
  | @step L us b s ro n ko k Lk D i1 h1 i2 h2 hs inb inb' h h' p1 p2 p3 hk hD rest ih =>
    exact add3 ih (multiReduction .add [2] (⟨2, ![8, n]⟩ : Shape) (wts D Lq Lk b ro ko i1 h1 i2 h2 hs) 0#32 p1 p2 p3)
      (fun b h p => ∑ j : Fin k, wt QP (KH s) b h p (ko + j)) (fun hh i =>
        (rowSum _ p1 p2 p3 hh i).trans (Finset.sum_congr rfl fun j _ => wts_apply hD hq (hk.is hS) b ro ko i1 h1 i2 h2 hs hh i j))

theorem ApT.sound {Lq L1 L2 L3 V1 V2 V3 : Buf4h} {QP KH VH} (hq : Is4h Lq QP) (hS : Stages L1 L2 L3 KH) (hV : Stages V1 V2 V3 VH) {L us}
    (hT : ApT Lq L1 L2 L3 V1 V2 V3 L us) : Is4 L (fun b h p e => (us.map fun u => aAdd QP KH VH u b h p e).sum) := by
  induction hT with
  | base =>
    rename_i inb h
    intro b hh p e
    have hin := (canon_unit (s := S2x8x512x64) (e := .f32) ![0, 0, 0, 0] S2x8x512x64.size inb
      (shapeCast S2x8x512x64 (broadcast (α := Elt Ideal .f32) S2x8x512x64 (FloatOps.ofBits (F := Ideal) .f32 0#32)) h) [] (ix4 b hh p e)).1 (ix4 b hh p e) (fun a => by fin_cases a <;> simp)
    refine hin.trans ?_
    show R32 (FloatOps.ofBits (F := Ideal) .f32 0#32) = _
    exact Ideal.ofBits_zero_f32
  | @step L us b s ro n ko k Lk Lv D E i1 h1 i2 h2 hs i3 h3 hs3 inb inb' h h' hb hk hv hD hE rest ih =>
    exact add4 ih _ (fun b h p e => ∑ j : Fin k, wt QP (KH s) b h p (ko + j) * VH s b h (ko + j) e) (fun hh i e =>
        (hE _ _ hh i e).trans (Finset.sum_congr rfl fun j _ => congr_arg₂ (· * ·)
          (wts_apply hD hq (hk.is hS) b ro ko i1 h1 i2 h2 hs hh i j) (cut4 (hv.is hV) b ko i3 h3 hs3 hh j e)))

end Cert.Ring

end
-- ==== Proof.Parts.lean ====
module
public import proofs.«01_k».proof.Proof.Reads
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Idealize.ShloMosaic.View (Piece canon)

/-! # The other stores of the body, read over the extended reals -/

/-- A box of a head-major buffer: batch, first head and heads, first row and rows. -/
structure Box where
  b : ℕ
  h : ℕ
  hn : ℕ
  r : ℕ
  rn : ℕ
deriving DecidableEq
abbrev Box.has (x : Box) (b h r : ℕ) : Prop := b = x.b ∧ (x.h ≤ h ∧ h < x.h + x.hn) ∧ x.r ≤ r ∧ r < x.r + x.rn

/-- On the boxes `bs` the stores `L` leave `G`. -/
def Part {e : EltTy} (G : ℕ → ℕ → ℕ → ℕ → Elt Ideal e) (bs : List Box) (L : List (Piece (Elt Ideal) S2x8x512x64 e)) : Prop :=
  ∀ (b : Fin 2) (h : Fin 8) (r : Fin 512) (x : Fin 64), (∃ y ∈ bs, y.has b h r) → canon L (ix4 b h r x) = G b h r x

theorem Part.nil {e : EltTy} {G : ℕ → ℕ → ℕ → ℕ → Elt Ideal e} {L} : Part G [] L := fun _ _ _ _ h => by simp at h

theorem Part.cons {e : EltTy} {G : ℕ → ℕ → ℕ → ℕ → Elt Ideal e} {L bs} {b h hn r rn : ℕ} {inb}
    {w : (Rect.unit (s := S2x8x512x64) ![b, h, r, 0] (⟨4, ![1, hn, rn, 64]⟩ : Shape).size inb).shape.Idx → Elt Ideal e}
    (hw : ∀ (x1 : Fin hn) (x2 : Fin rn) (x3 : Fin 64), w (ix4 (n0 := 1) (n1 := hn) (n2 := rn) (n3 := 64) 0 x1 x2 x3) = G b (h + x1) (r + x2) x3)
    (rest : Part G bs L) : Part G (⟨b, h, hn, r, rn⟩ :: bs) (⟨Rect.unit (s := S2x8x512x64) ![b, h, r, 0] (⟨4, ![1, hn, rn, 64]⟩ : Shape).size inb, w⟩ :: L) := by
  intro b' h' r' x hx
  obtain ⟨hin, hout⟩ := canon_unit (s := S2x8x512x64) ![b, h, r, 0] (⟨4, ![1, hn, rn, 64]⟩ : Shape).size inb w L (ix4 b' h' r' x)
  by_cases hc : (⟨b, h, hn, r, rn⟩ : Box).has b' h' r'
  · obtain ⟨e0, ⟨e1, e2⟩, e3, e4⟩ := hc
    change b'.val = b at e0
    change h ≤ h'.val at e1
    change h'.val < h + hn at e2
    change r ≤ r'.val at e3
    change r'.val < r + rn at e4
    refine (hin (ix4 (n0 := 1) (n1 := hn) (n2 := rn) (n3 := 64) 0 ⟨h'.val - h, by omega⟩ ⟨r'.val - r, by omega⟩ x) (fun a => ?_)).trans ((hw _ _ _).trans ?_)
    · fin_cases a
      · show b'.val = b + 0; omega
      · show h'.val = h + (h'.val - h); omega
      · show r'.val = r + (r'.val - r); omega
      · show x.val = 0 + x.val; omega
    · show G b (h + (h'.val - h)) (r + (r'.val - r)) x = _
      rw [Nat.add_sub_cancel' e1, Nat.add_sub_cancel' e3, e0]
  · refine (hout fun ha => hc ?_).trans (rest b' h' r' x ?_)
    · have h0 := ha 0; have h1 := ha 1; have h2 := ha 2
      change b ≤ b'.val ∧ b'.val < b + 1 at h0
      change h ≤ h'.val ∧ h'.val < h + hn at h1
      change r ≤ r'.val ∧ r'.val < r + rn at h2
      exact ⟨by show b'.val = b; omega, h1, h2⟩
    · obtain ⟨y, hy, hyh⟩ := hx
      rcases List.mem_cons.mp hy with rfl | hy
      · exact absurd hyh hc
      · exact ⟨y, hy, hyh⟩

/-- Head by head, one batch after the other, newest first. -/
abbrev heads : List Box := [⟨1, 7, 1, 0, 512⟩, ⟨1, 6, 1, 0, 512⟩, ⟨1, 5, 1, 0, 512⟩, ⟨1, 4, 1, 0, 512⟩, ⟨1, 3, 1, 0, 512⟩, ⟨1, 2, 1, 0, 512⟩, ⟨1, 1, 1, 0, 512⟩, ⟨1, 0, 1, 0, 512⟩,
  ⟨0, 7, 1, 0, 512⟩, ⟨0, 6, 1, 0, 512⟩, ⟨0, 5, 1, 0, 512⟩, ⟨0, 4, 1, 0, 512⟩, ⟨0, 3, 1, 0, 512⟩, ⟨0, 2, 1, 0, 512⟩, ⟨0, 1, 1, 0, 512⟩, ⟨0, 0, 1, 0, 512⟩]
theorem heads_all (b : Fin 2) (h : Fin 8) (r : Fin 512) : ∃ y ∈ heads, y.has b h r := by
  refine ⟨⟨b, h, 1, 0, 512⟩, ?_, rfl, ⟨le_refl _, by show h.val < h.val + 1; omega⟩, Nat.zero_le _, by show r.val < 0 + 512; omega⟩
  revert b h; decide
/-- Block of rows by block of rows, both batches, newest first. -/
abbrev blocks : List Box := [⟨1, 0, 8, 448, 64⟩, ⟨0, 0, 8, 448, 64⟩, ⟨1, 0, 8, 384, 64⟩, ⟨0, 0, 8, 384, 64⟩, ⟨1, 0, 8, 320, 64⟩, ⟨0, 0, 8, 320, 64⟩, ⟨1, 0, 8, 256, 64⟩, ⟨0, 0, 8, 256, 64⟩,
  ⟨1, 0, 8, 192, 64⟩, ⟨0, 0, 8, 192, 64⟩, ⟨1, 0, 8, 128, 64⟩, ⟨0, 0, 8, 128, 64⟩, ⟨1, 0, 8, 64, 64⟩, ⟨0, 0, 8, 64, 64⟩, ⟨1, 0, 8, 0, 64⟩, ⟨0, 0, 8, 0, 64⟩]
theorem blocks_all (b : Fin 2) (h : Fin 8) (r : Fin 512) : ∃ y ∈ blocks, y.has b h r := by
  refine ⟨⟨b, 0, 8, 64 * (r.val / 64), 64⟩, ?_, rfl, ⟨Nat.zero_le _, by show h.val < 0 + 8; omega⟩, by show 64 * (r.val / 64) ≤ r.val; omega, by show r.val < 64 * (r.val / 64) + 64; omega⟩
  have hr : r.val / 64 < 8 := by omega
  generalize r.val / 64 = q at hr
  have : ∀ (b : Fin 2) (q : Fin 8), (⟨b, 0, 8, 64 * q.val, 64⟩ : Box) ∈ blocks := by decide
  exact this b ⟨q, hr⟩
/-- Four heads at a time. -/
abbrev halves : List Box := [⟨1, 4, 4, 0, 512⟩, ⟨1, 0, 4, 0, 512⟩, ⟨0, 4, 4, 0, 512⟩, ⟨0, 0, 4, 0, 512⟩]
theorem halves_all (b : Fin 2) (h : Fin 8) (r : Fin 512) : ∃ y ∈ halves, y.has b h r := by
  refine ⟨⟨b, 4 * (h / 4), 4, 0, 512⟩, ?_, rfl, ⟨by show 4 * (h.val / 4) ≤ h.val; omega, by show h.val < 4 * (h.val / 4) + 4; omega⟩, Nat.zero_le _, by show r.val < 0 + 512; omega⟩
  revert b h; decide

theorem Part.heads {G : ℕ → ℕ → ℕ → ℕ → EReal} {L : Buf4h} (h : Part (e := .bf16) G heads L) : Is4h L G := fun b hh r x => h b hh r x (heads_all b hh r)
theorem Part.blocks {G : ℕ → ℕ → ℕ → ℕ → EReal} {L : Buf4h} (h : Part (e := .bf16) G blocks L) : Is4h L G := fun b hh r x => h b hh r x (blocks_all b hh r)
theorem Part.halves {G : ℕ → ℕ → ℕ → ℕ → EReal} {L : Buf4} (h : Part (e := .f32) G halves L) : Is4 L G := fun b hh r x => h b hh r x (halves_all b hh r)

/-- One head's columns of a matrix. -/
theorem headCols {R : ℕ} {M : FVec Ideal ⟨2, ![R, 512]⟩ .bf16} {MG : ℕ → ℕ → EReal} (hM : ∀ (i : Fin R) (j : Fin 512), R16 (M (ix2 i j)) = MG i j)
    {ro o : ℕ} {hs : (⟨2, ![R, 512]⟩ : Shape).Slices ![ro, o] S512x64} {h : S512x64.ShapeCasts S1x1x512x64} {b hh : ℕ} {G : ℕ → ℕ → ℕ → ℕ → EReal}
    (hG : ∀ r e : ℕ, MG (ro + r) (o + e) = G b hh r e) (x1 : Fin 1) (x2 : Fin 512) (x3 : Fin 64) :
    R16 (shapeCast S1x1x512x64 (extractStridedSlice S512x64 ![ro, o] M hs) h (ix4 (n0 := 1) (n1 := 1) (n2 := 512) (n3 := 64) 0 x1 x2 x3)) = G b (hh + x1) (0 + x2) x3 := by
  have h0 : ro + 512 ≤ R := hs.2 0
  have h1 : o + 64 ≤ 512 := hs.2 1
  have e1 : x1 = 0 := Subsingleton.elim _ _
  subst e1
  rw [show shapeCast S1x1x512x64 (extractStridedSlice S512x64 ![ro, o] M hs) h (ix4 (n0 := 1) (n1 := 1) (n2 := 512) (n3 := 64) 0 0 x2 x3)
    = extractStridedSlice S512x64 ![ro, o] M hs (ix2 x2 x3) from by pointwise]
  rw [extractStridedSlice_apply _ _ _ _ (ix2 (n0 := R) (n1 := 512) ⟨ro + x2, by omega⟩ ⟨o + x3, by omega⟩) (fun a => by fin_cases a <;> rfl), hM]
  show MG (ro + x2) (o + x3) = G b (hh + 0) (0 + x2) x3
  rw [hG, Nat.add_zero, Nat.zero_add]

/-! ## Device-local attention, masked -/

/-- The block mask: rows of block `q` attend to keys of block `k`. -/
abbrev Msk (q k : ℕ) : Prop := q = k ∨ k = 0 ∨ (q + k) % 3 = 0
/-- `M` is the mask of the rows of device `d` against its own keys. -/
def IsMask (d : ℕ) (M : IVec S512x512 1) : Prop := ∀ i j : Fin 512, M (ix2 i j) = 1#1 ↔ Msk (8 * d + i / 64) (8 * d + j / 64)

theorem mask_bot : R32 (Named.named (F := Ideal) κ "mask" (φ := .f32) 0xF149F2CA#32) = ⊥ := rfl

/-- Four heads of a batch, read back. -/
theorem four {M : Memref sig .tc .vmem S2x8x512x64 .bf16} {L : Buf4h} {G} (hL : Is4h L G) (b h0 : ℕ)
    (inb : ∀ a, (![b, h0, 0, 0] : Fin 4 → ℕ) a + S1x4x512x64.size a ≤ S2x8x512x64.size a) (h : S1x4x512x64.ShapeCasts S4x512x64) (hh : Fin 4) (i : Fin 512) (e : Fin 64) :
    R16 (shapeCast S4x512x64 (M.view.readCov L (Rect.unit (s := S2x8x512x64) ![b, h0, 0, 0] S1x4x512x64.size inb).toLoadRect) h (ix3 hh i e)) = G b (h0 + hh) i e := by
  rw [shapeCast_dropUnit_apply (d := ![4, 512, 64]), View.readCov_eq_canon']
  have hb' : b + 1 ≤ 2 := inb 0
  have hr' : h0 + 4 ≤ 8 := inb 1
  rw [← hL ⟨b, by omega⟩ ⟨h0 + hh, by omega⟩ i e]
  refine congrArg (canon L) (funext fun a => Fin.ext ?_)
  fin_cases a
  · show b + 1 * 0 = b; omega
  · show h0 + 1 * hh.val = h0 + hh.val; omega
  · show 0 + 1 * i.val = i.val; omega
  · show 0 + 1 * e.val = e.val; omega

/-- The masked weights of four heads. -/
abbrev dWts (M : IVec S512x512 1) (Lq Lk : Buf4h) (b h0 : ℕ)
    (i1 : ∀ a, (![b, h0, 0, 0] : Fin 4 → ℕ) a + S1x4x512x64.size a ≤ S2x8x512x64.size a) (h1 : S1x4x512x64.ShapeCasts S4x512x64)
    (i2 : ∀ a, (![b, h0, 0, 0] : Fin 4 → ℕ) a + S1x4x512x64.size a ≤ S2x8x512x64.size a) (h2 : S1x4x512x64.ShapeCasts S4x512x64)
    (c1 : S512x512.ShapeCasts S1x512x512) (c2 : S1x512x512.ShapeCasts S1x512x512) (bb : S1x512x512.Broadcasts S4x512x512) : FVec Ideal S4x512x512 .f32 :=
  exp (select (broadcastTo S4x512x512 (shapeCast S1x512x512 (shapeCast S1x512x512 M c1) c2) bb)
    (matmul (φ₁ := .bf16) (φ₂ := .bf16) dot_S4x512x64_S4x512x64_S4x512x512_2_2_1_1_0_0 none
      (shapeCast S4x512x64 ((Memref.whole cc0_scratch2).view.readCov Lq (Rect.unit (s := S2x8x512x64) ![b, h0, 0, 0] S1x4x512x64.size i1).toLoadRect) h1)
      (shapeCast S4x512x64 ((Memref.whole cc0_scratch4).view.readCov Lk (Rect.unit (s := S2x8x512x64) ![b, h0, 0, 0] S1x4x512x64.size i2).toLoadRect) h2)
      (constant S4x512x512 .f32 0#32))
    (broadcast S4x512x512 (Named.named (F := Ideal) κ "mask" (φ := .f32) 0xF149F2CA#32)))

theorem dMat (l r : FVec Ideal S4x512x64 .bf16) (h : Fin 4) (i j : Fin 512) :
    R32 (matmul dot_S4x512x64_S4x512x64_S4x512x512_2_2_1_1_0_0 none l r (constant S4x512x512 .f32 0#32) (ix3 h i j)) = ∑ d : Fin 64, R16 (l (ix3 h i d)) * R16 (r (ix3 h j d)) := by
  pointwise
theorem dMat' (l : FVec Ideal S4x512x512 .bf16) (r : FVec Ideal S4x512x64 .bf16) (h : Fin 4) (i : Fin 512) (e : Fin 64) :
    R32 (matmul dot_S4x512x512_S4x512x64_S4x512x64_2_1_1_2_0_0 none l r (constant S4x512x64 .f32 0#32) (ix3 h i e)) = ∑ j : Fin 512, R16 (l (ix3 h i j)) * R16 (r (ix3 h j e)) := by
  pointwise

theorem dWts_apply {d : ℕ} {M : IVec S512x512 1} (hM : IsMask d M) {Lq Lk : Buf4h} {QP KH} (hq : Is4h Lq QP) (hk : Is4h Lk KH) (b h0 : ℕ) (i1 h1 i2 h2 c1 c2 bb)
    (h : Fin 4) (i j : Fin 512) :
    R32 (dWts M Lq Lk b h0 i1 h1 i2 h2 c1 c2 bb (ix3 h i j)) = if Msk (8 * d + i / 64) (8 * d + j / 64) then wt QP KH b (h0 + h) i j else 0 := by
  have e1 : (broadcastTo S4x512x512 (shapeCast S1x512x512 (shapeCast S1x512x512 M c1) c2) bb) (ix3 h i j) = M (ix2 i j) := by pointwise
  show Ideal.exp (Scalar.select ((broadcastTo S4x512x512 (shapeCast S1x512x512 (shapeCast S1x512x512 M c1) c2) bb) (ix3 h i j)) _ (R32 (Named.named (F := Ideal) κ "mask" (φ := .f32) 0xF149F2CA#32))) = _
  rw [e1]
  unfold Scalar.select
  by_cases hm : Msk (8 * d + i / 64) (8 * d + j / 64)
  · rw [if_pos hm, if_pos (show M (ix2 i j) = 1 from (hM i j).mpr hm)]
    unfold wt
    refine congrArg Idealize.ShloMosaic.Ideal.exp ((dMat _ _ h i j).trans (Finset.sum_congr rfl fun d _ => ?_))
    rw [four hq b h0 i1 h1 h i d, four hk b h0 i2 h2 h j d]
  · rw [if_neg hm, if_neg (show ¬ M (ix2 i j) = 1 from fun he => hm ((hM i j).mp he))]
    exact (congrArg Ideal.exp mask_bot).trans Ideal.exp_bot

/-- The dense stores: sums of weights. -/
inductive DenL (d : ℕ) (Lq Lk : Buf4h) : Buf3 → List (ℕ × ℕ) → Prop
  | nil : DenL d Lq Lk [] []
  | step {L : Buf3} {bs : List (ℕ × ℕ)} {b h0 : ℕ} {M : IVec S512x512 1} {i1 h1 i2 h2 c1 c2 bb inb h p1 p2 p3} (hM : IsMask d M) (rest : DenL d Lq Lk L bs) :
      DenL d Lq Lk (⟨Rect.unit (s := S2x8x512) ![b, h0, 0] S1x4x512.size inb,
        shapeCast S1x4x512 (multiReduction .add [2] S4x512 (dWts M Lq Lk b h0 i1 h1 i2 h2 c1 c2 bb) 0#32 p1 p2 p3) h⟩ :: L) ((b, h0) :: bs)
/-- The dense stores: weighted rows. -/
inductive DenA (d : ℕ) (Lq Lk Lv : Buf4h) : Buf4 → List (ℕ × ℕ) → Prop
  | nil : DenA d Lq Lk Lv [] []
  | step {L : Buf4} {bs : List (ℕ × ℕ)} {b h0 : ℕ} {M : IVec S512x512 1} {i1 h1 i2 h2 c1 c2 bb inb i3 h3 h hb} (hM : IsMask d M) (rest : DenA d Lq Lk Lv L bs) :
      DenA d Lq Lk Lv (⟨Rect.unit (s := S2x8x512x64) ![b, h0, 0, 0] S1x4x512x64.size inb,
        shapeCast S1x4x512x64 (matmul (φ₁ := .bf16) (φ₂ := .bf16) dot_S4x512x512_S4x512x64_S4x512x64_2_1_1_2_0_0 none (truncf .bf16 (dWts M Lq Lk b h0 i1 h1 i2 h2 c1 c2 bb) hb)
          (shapeCast S4x512x64 ((Memref.whole cc0_scratch5).view.readCov Lv (Rect.unit (s := S2x8x512x64) ![b, h0, 0, 0] S1x4x512x64.size i3).toLoadRect) h3)
          (constant S4x512x64 .f32 0#32)) h⟩ :: L) ((b, h0) :: bs)

/-- The masked sums over a device's own keys. -/
def lDen (d : ℕ) (QP KH : ℕ → ℕ → ℕ → ℕ → EReal) (b h p : ℕ) : EReal := ∑ j : Fin 512, if Msk (8 * d + p / 64) (8 * d + j / 64) then wt QP KH b h p j else 0
def aDen (d : ℕ) (QP KH VH : ℕ → ℕ → ℕ → ℕ → EReal) (b h p e : ℕ) : EReal :=
  ∑ j : Fin 512, (if Msk (8 * d + p / 64) (8 * d + j / 64) then wt QP KH b h p j else 0) * VH b h j e

theorem DenL.part {d : ℕ} {Lq Lk : Buf4h} {QP KH} (hq : Is4h Lq QP) (hk : Is4h Lk KH) {L bs} (hT : DenL d Lq Lk L bs)
    (b : Fin 2) (h : Fin 8) (r : Fin 512) (hc : ∃ y ∈ bs, b.val = y.1 ∧ y.2 ≤ h.val ∧ h.val < y.2 + 4) : R32 (canon L (ix3 b h r)) = lDen d QP KH b h r := by
  induction hT with
  | nil => simp at hc
  | @step L bs b0 h0 M i1 h1 i2 h2 c1 c2 bb inb hs p1 p2 p3 hM rest ih =>
    obtain ⟨hin, hout⟩ := canon_unit (s := S2x8x512) (e := .f32) ![b0, h0, 0] S1x4x512.size inb
      (shapeCast S1x4x512 (multiReduction .add [2] S4x512 (dWts M Lq Lk b0 h0 i1 h1 i2 h2 c1 c2 bb) 0#32 p1 p2 p3) hs) L (ix3 b h r)
    by_cases hb : b.val = b0 ∧ h0 ≤ h.val ∧ h.val < h0 + 4
    · obtain ⟨e0, e1, e2⟩ := hb
      refine (hin (ix3 (n0 := 1) (n1 := 4) (n2 := 512) 0 ⟨h.val - h0, by omega⟩ r) (fun a => ?_)).trans ?_
      · fin_cases a
        · show b.val = b0 + 0; omega
        · show h.val = h0 + (h.val - h0); omega
        · show r.val = 0 + r.val; omega
      · have : ∀ (v : FVec Ideal S4x512x512 .f32) (x : Fin 4) (i : Fin 512),
            R32 (shapeCast S1x4x512 (multiReduction .add [2] S4x512 v 0#32 p1 p2 p3) hs (ix3 (n0 := 1) (n1 := 4) (n2 := 512) 0 x i)) = ∑ j : Fin 512, R32 (v (ix3 x i j)) := by
          intro v x i; pointwise
        refine (this _ _ _).trans (Finset.sum_congr rfl fun j _ => ?_)
        refine (dWts_apply hM hq hk b0 h0 i1 h1 i2 h2 c1 c2 bb _ r j).trans ?_
        show (if _ then wt QP KH b0 (h0 + (h.val - h0)) r j else 0) = _
        rw [Nat.add_sub_cancel' e1, e0]
    · refine (hout fun ha => hb ?_).trans (ih ?_)
      · have h0' := ha 0; have h1' := ha 1
        change b0 ≤ b.val ∧ b.val < b0 + 1 at h0'
        change h0 ≤ h.val ∧ h.val < h0 + 4 at h1'
        exact ⟨by omega, h1'⟩
      · obtain ⟨y, hy, hyh⟩ := hc
        rcases List.mem_cons.mp hy with rfl | hy
        · exact absurd hyh hb
        · exact ⟨y, hy, hyh⟩
theorem DenA.part {d : ℕ} {Lq Lk Lv : Buf4h} {QP KH VH} (hq : Is4h Lq QP) (hk : Is4h Lk KH) (hv : Is4h Lv VH) {L bs} (hT : DenA d Lq Lk Lv L bs)
    (b : Fin 2) (h : Fin 8) (r : Fin 512) (e : Fin 64) (hc : ∃ y ∈ bs, b.val = y.1 ∧ y.2 ≤ h.val ∧ h.val < y.2 + 4) : R32 (canon L (ix4 b h r e)) = aDen d QP KH VH b h r e := by
  induction hT with
  | nil => simp at hc
  | @step L bs b0 h0 M i1 h1 i2 h2 c1 c2 bb inb i3 h3 hs hb hM rest ih =>
    obtain ⟨hin, hout⟩ := canon_unit (s := S2x8x512x64) (e := .f32) ![b0, h0, 0, 0] S1x4x512x64.size inb
      (shapeCast S1x4x512x64 (matmul (φ₁ := .bf16) (φ₂ := .bf16) dot_S4x512x512_S4x512x64_S4x512x64_2_1_1_2_0_0 none (truncf .bf16 (dWts M Lq Lk b0 h0 i1 h1 i2 h2 c1 c2 bb) hb)
          (shapeCast S4x512x64 ((Memref.whole cc0_scratch5).view.readCov Lv (Rect.unit (s := S2x8x512x64) ![b0, h0, 0, 0] S1x4x512x64.size i3).toLoadRect) h3)
          (constant S4x512x64 .f32 0#32)) hs) L (ix4 b h r e)
    by_cases hb : b.val = b0 ∧ h0 ≤ h.val ∧ h.val < h0 + 4
    · obtain ⟨e0, e1, e2⟩ := hb
      refine (hin (ix4 (n0 := 1) (n1 := 4) (n2 := 512) (n3 := 64) 0 ⟨h.val - h0, by omega⟩ r e) (fun a => ?_)).trans ?_
      · fin_cases a
        · show b.val = b0 + 0; omega
        · show h.val = h0 + (h.val - h0); omega
        · show r.val = 0 + r.val; omega
        · show e.val = 0 + e.val; omega
      · have : ∀ (v : FVec Ideal S4x512x64 .f32) (x : Fin 4) (i : Fin 512),
            R32 (shapeCast S1x4x512x64 v hs (ix4 (n0 := 1) (n1 := 4) (n2 := 512) (n3 := 64) 0 x i e)) = R32 (v (ix3 x i e)) := by
          intro v x i; pointwise
        refine (this _ _ _).trans ((dMat' _ _ _ _ _).trans (Finset.sum_congr rfl fun j _ => congr_arg₂ (· * ·) ?_ ?_))
        · refine (dWts_apply hM hq hk b0 h0 i1 h1 i2 h2 c1 c2 bb _ r j).trans ?_
          show (if _ then wt QP KH b0 (h0 + (h.val - h0)) r j else 0) = _
          rw [Nat.add_sub_cancel' e1, e0]
        · refine (four hv b0 h0 i3 h3 _ j e).trans ?_
          show VH b0 (h0 + (h.val - h0)) j e = _
          rw [Nat.add_sub_cancel' e1, e0]
    · refine (hout fun ha => hb ?_).trans (ih ?_)
      · have h0' := ha 0; have h1' := ha 1
        change b0 ≤ b.val ∧ b.val < b0 + 1 at h0'
        change h0 ≤ h.val ∧ h.val < h0 + 4 at h1'
        exact ⟨by omega, h1'⟩
      · obtain ⟨y, hy, hyh⟩ := hc
        rcases List.mem_cons.mp hy with rfl | hy
        · exact absurd hyh hb
        · exact ⟨y, hy, hyh⟩
/-- The four boxes of the dense stores. -/
abbrev four4 : List (ℕ × ℕ) := [(1, 4), (1, 0), (0, 4), (0, 0)]
theorem four4_all (b : Fin 2) (h : Fin 8) : ∃ y ∈ four4, b.val = y.1 ∧ y.2 ≤ h.val ∧ h.val < y.2 + 4 := by
  revert b h; decide
theorem DenL.sound {d : ℕ} {Lq Lk : Buf4h} {QP KH} (hq : Is4h Lq QP) (hk : Is4h Lk KH) {L} (hT : DenL d Lq Lk L four4) : Is3 L (lDen d QP KH) :=
  fun b h r => hT.part hq hk b h r (four4_all b h)
theorem DenA.sound {d : ℕ} {Lq Lk Lv : Buf4h} {QP KH VH} (hq : Is4h Lq QP) (hk : Is4h Lk KH) (hv : Is4h Lv VH) {L} (hT : DenA d Lq Lk Lv L four4) : Is4 L (aDen d QP KH VH) :=
  fun b h r e => hT.part hq hk hv b h r e (four4_all b h)

/-! ## The permuted sums carried back to their rows -/

/-- A move: batch, rows from `ro` on, taken from rows `src` on. -/
structure Mv where
  b : ℕ
  ro : ℕ
  src : ℕ
inductive FinL (Lp LD : Buf3) : Buf3 → List Mv → Prop
  | base : FinL Lp LD LD []
  | step {L : Buf3} {ms : List Mv} {b ro src : ℕ} {inb inb' i2 h h' h2} (rest : FinL Lp LD L ms) :
      FinL Lp LD (⟨Rect.unit (s := S2x8x512) ![b, 0, ro] S1x8x64.size inb,
        shapeCast S1x8x64 (addf (F := Ideal) (φ := .f32)
          (shapeCast S8x64 ((Memref.whole cc0_scratch8).view.readCov L (Rect.unit (s := S2x8x512) ![b, 0, ro] S1x8x64.size inb').toLoadRect) h')
          (shapeCast S8x64 ((Memref.whole cc0_scratch9).view.readCov Lp (Rect.unit (s := S2x8x512) ![b, 0, src] S1x8x64.size i2).toLoadRect) h2)) h⟩ :: L) (⟨b, ro, src⟩ :: ms)
inductive FinA (Lp LD : Buf4) : Buf4 → List Mv → Prop
  | base : FinA Lp LD LD []
  | step {L : Buf4} {ms : List Mv} {b ro src : ℕ} {inb inb' i2 h h' h2} (rest : FinA Lp LD L ms) :
      FinA Lp LD (⟨Rect.unit (s := S2x8x512x64) ![b, 0, ro, 0] S1x8x64x64.size inb,
        shapeCast S1x8x64x64 (addf (F := Ideal) (φ := .f32)
          (shapeCast S8x64x64 ((Memref.whole cc0_scratch6).view.readCov L (Rect.unit (s := S2x8x512x64) ![b, 0, ro, 0] S1x8x64x64.size inb').toLoadRect) h')
          (shapeCast S8x64x64 ((Memref.whole cc0_scratch7).view.readCov Lp (Rect.unit (s := S2x8x512x64) ![b, 0, src, 0] S1x8x64x64.size i2).toLoadRect) h2)) h⟩ :: L) (⟨b, ro, src⟩ :: ms)

theorem strip3 {M : Memref sig .tc .vmem S2x8x512 .f32} {L : Buf3} {G} (hL : Is3 L G) (b ro : ℕ)
    (inb : ∀ a, (![b, 0, ro] : Fin 3 → ℕ) a + S1x8x64.size a ≤ S2x8x512.size a) (h : S1x8x64.ShapeCasts S8x64) (hh : Fin 8) (i : Fin 64) :
    R32 (shapeCast S8x64 (M.view.readCov L (Rect.unit (s := S2x8x512) ![b, 0, ro] S1x8x64.size inb).toLoadRect) h (ix2 hh i)) = G b hh (ro + i) := by
  rw [shapeCast_dropUnit_apply (d := ![8, 64]), View.readCov_eq_canon']
  have hb' : b + 1 ≤ 2 := inb 0
  have hr' : ro + 64 ≤ 512 := inb 2
  rw [← hL ⟨b, by omega⟩ hh ⟨ro + i, by omega⟩]
  refine congrArg (canon L) (funext fun a => Fin.ext ?_)
  fin_cases a
  · show b + 1 * 0 = b; omega
  · show 0 + 1 * hh.val = hh.val; omega
  · show ro + 1 * i.val = ro + i.val; omega
theorem strip4' {M : Memref sig .tc .vmem S2x8x512x64 .f32} {L : Buf4} {G} (hL : Is4 L G) (b ro : ℕ)
    (inb : ∀ a, (![b, 0, ro, 0] : Fin 4 → ℕ) a + S1x8x64x64.size a ≤ S2x8x512x64.size a) (h : S1x8x64x64.ShapeCasts S8x64x64) (hh : Fin 8) (i e : Fin 64) :
    R32 (shapeCast S8x64x64 (M.view.readCov L (Rect.unit (s := S2x8x512x64) ![b, 0, ro, 0] S1x8x64x64.size inb).toLoadRect) h (ix3 hh i e)) = G b hh (ro + i) e := by
  rw [shapeCast_dropUnit_apply (d := ![8, 64, 64]), View.readCov_eq_canon']
  have hb' : b + 1 ≤ 2 := inb 0
  have hr' : ro + 64 ≤ 512 := inb 2
  rw [← hL ⟨b, by omega⟩ hh ⟨ro + i, by omega⟩ e]
  refine congrArg (canon L) (funext fun a => Fin.ext ?_)
  fin_cases a
  · show b + 1 * 0 = b; omega
  · show 0 + 1 * hh.val = hh.val; omega
  · show ro + 1 * i.val = ro + i.val; omega
  · show 0 + 1 * e.val = e.val; omega

theorem FinL.sound {Lp LD : Buf3} {GP GD} (hp : Is3 Lp GP) (hd : Is3 LD GD) {L ms} (hT : FinL Lp LD L ms) :
    Is3 L (fun b h p => (ms.map fun m => if b = m.b ∧ m.ro ≤ p ∧ p < m.ro + 64 then GP b h (m.src + (p - m.ro)) else 0).sum + GD b h p) := by
  induction hT with
  | base => intro b h p; beta_reduce; rw [List.map_nil, List.sum_nil, zero_add]; exact hd b h p
  | @step L ms b ro src inb inb' i2 h h' h2 rest ih =>
    have := add3 (M := Memref.whole cc0_scratch8) ih (b := b) (ro := ro) (n := 64) (inb := inb) (inb' := inb') (h := h) (h' := h')
      (shapeCast S8x64 ((Memref.whole cc0_scratch9).view.readCov Lp (Rect.unit (s := S2x8x512) ![b, 0, src] S1x8x64.size i2).toLoadRect) h2)
      (fun b h p => GP b h (src + (p - ro))) (fun hh i => (strip3 hp b src i2 h2 hh i).trans (by rw [Nat.add_sub_cancel_left]))
    intro b' hh p
    refine (this b' hh p).trans ?_
    beta_reduce
    rw [List.map_cons, List.sum_cons, add_assoc]
theorem FinA.sound {Lp LD : Buf4} {GP GD} (hp : Is4 Lp GP) (hd : Is4 LD GD) {L ms} (hT : FinA Lp LD L ms) :
    Is4 L (fun b h p e => (ms.map fun m => if b = m.b ∧ m.ro ≤ p ∧ p < m.ro + 64 then GP b h (m.src + (p - m.ro)) e else 0).sum + GD b h p e) := by
  induction hT with
  | base => intro b h p e; beta_reduce; rw [List.map_nil, List.sum_nil, zero_add]; exact hd b h p e
  | @step L ms b ro src inb inb' i2 h h' h2 rest ih =>
    have := add4 (M := Memref.whole cc0_scratch6) ih (b := b) (ro := ro) (n := 64) (inb := inb) (inb' := inb') (h := h) (h' := h')
      (shapeCast S8x64x64 ((Memref.whole cc0_scratch7).view.readCov Lp (Rect.unit (s := S2x8x512x64) ![b, 0, src, 0] S1x8x64x64.size i2).toLoadRect) h2)
      (fun b h p e => GP b h (src + (p - ro)) e) (fun hh i e => (strip4' hp b src i2 h2 hh i e).trans (by rw [Nat.add_sub_cancel_left]))
    intro b' hh p e
    refine (this b' hh p e).trans ?_
    beta_reduce
    rw [List.map_cons, List.sum_cons, add_assoc]

/-! ## The projections -/

theorem ctx_apply (A : Vec Ideal S1x8x512x64 .f32) (L : Vec Ideal S1x8x512 .f32) (h : Fin 8) (r : Fin 512) (e : Fin 64) :
    R16 (k0_pay883 (F := Ideal) A L (ix3 h r e)) = Ideal.div (R32 (A (ix4 (n0 := 1) (n1 := 8) (n2 := 512) (n3 := 64) 0 h r e))) (R32 (L (ix3 (n0 := 1) (n1 := 8) (n2 := 512) 0 h r))) := by
  unfold k0_pay883
  pointwise

theorem head_apply (C : FVec Ideal S8x512x64 .bf16) (W : FVec Ideal S512x768 .bf16) (h o : ℕ) (s1 : S8x512x64.Slices ![h, 0, 0] S1x512x64) (c1 : S1x512x64.ShapeCasts S512x64)
    (s2 : S512x768.Slices ![o, 0] S64x768) (hh : h < 8) (ho : o + 64 ≤ 512) (r : Fin 512) (n : Fin 768) :
    R32 (matmul dot_S512x64_S64x768_S512x768_1_0_0_1_n_n none (shapeCast S512x64 (extractStridedSlice S1x512x64 ![h, 0, 0] C s1) c1) (extractStridedSlice S64x768 ![o, 0] W s2)
      (constant S512x768 .f32 0#32) (ix2 r n)) = ∑ e : Fin 64, R16 (C (ix3 (n0 := 8) (n1 := 512) (n2 := 64) ⟨h, hh⟩ r e)) * R16 (W (ix2 (n0 := 512) (n1 := 768) ⟨o + e, by omega⟩ n)) := by
  have hm : ∀ (l : FVec Ideal S512x64 .bf16) (q : FVec Ideal S64x768 .bf16),
      R32 (matmul dot_S512x64_S64x768_S512x768_1_0_0_1_n_n none l q (constant S512x768 .f32 0#32) (ix2 r n)) = ∑ e : Fin 64, R16 (l (ix2 r e)) * R16 (q (ix2 e n)) := by
    intro l q; pointwise
  refine (hm _ _).trans (Finset.sum_congr rfl fun e _ => congr_arg₂ (· * ·) ?_ ?_)
  · rw [show shapeCast S512x64 (extractStridedSlice S1x512x64 ![h, 0, 0] C s1) c1 (ix2 r e) = extractStridedSlice S1x512x64 ![h, 0, 0] C s1 (ix3 (n0 := 1) (n1 := 512) (n2 := 64) 0 r e) from by pointwise]
    exact congrArg R16 (extractStridedSlice_apply _ _ _ _ (ix3 (n0 := 8) (n1 := 512) (n2 := 64) ⟨h, hh⟩ r e) (fun a => by
      fin_cases a
      · rfl
      · show r.val = 0 + r.val; omega
      · show e.val = 0 + e.val; omega))
  · exact congrArg R16 (extractStridedSlice_apply _ _ _ _ (ix2 (n0 := 512) (n1 := 768) ⟨o + e, by omega⟩ n) (fun a => by
      fin_cases a
      · rfl
      · show n.val = 0 + n.val; omega))

/-- One head's share of the output projection. -/
def headSum (C : FVec Ideal S8x512x64 .bf16) (W : FVec Ideal S512x768 .bf16) (r : Fin 512) (n : Fin 768) (h : Fin 8) : EReal :=
  ∑ e : Fin 64, R16 (C (ix3 (n0 := 8) (n1 := 512) (n2 := 64) h r e)) * R16 (W (ix2 (n0 := 512) (n1 := 768) ⟨64 * h + e, by omega⟩ n))
theorem head_sum (C : FVec Ideal S8x512x64 .bf16) (W : FVec Ideal S512x768 .bf16) (h o : ℕ) (hh : h < 8) (ho : o = 64 * h) (s1 : S8x512x64.Slices ![h, 0, 0] S1x512x64) (c1 : S1x512x64.ShapeCasts S512x64)
    (s2 : S512x768.Slices ![o, 0] S64x768) (r : Fin 512) (n : Fin 768) :
    R32 (matmul dot_S512x64_S64x768_S512x768_1_0_0_1_n_n none (shapeCast S512x64 (extractStridedSlice S1x512x64 ![h, 0, 0] C s1) c1) (extractStridedSlice S64x768 ![o, 0] W s2)
      (constant S512x768 .f32 0#32) (ix2 r n)) = headSum C W r n ⟨h, hh⟩ := by
  subst ho
  exact head_apply C W h (64 * h) s1 c1 s2 hh (by omega) r n
theorem add8 (a b c d e f g h : FVec Ideal S512x768 .f32) (i) :
    R32 (addf (addf (addf (addf (addf (addf (addf a b) c) d) e) f) g) h i) = R32 (a i) + R32 (b i) + R32 (c i) + R32 (d i) + R32 (e i) + R32 (f i) + R32 (g i) + R32 (h i) := rfl
theorem projC (C : FVec Ideal S8x512x64 .bf16) (W : FVec Ideal S512x768 .bf16) (A : Vec Ideal S1x8x512x64 .f32) (L : Vec Ideal S1x8x512 .f32) (hC : C = k0_pay883 (F := Ideal) A L) (r : Fin 512) (n : Fin 768) :
    R32 (k0_pay1 (F := Ideal) W C (k0_pay886 W C (k0_pay884 W A L) (k0_pay885 W A L)) (ix3 (n0 := 1) (n1 := 512) (n2 := 768) 0 r n))
      = ∑ h : Fin 8, headSum C W r n h := by
  unfold k0_pay1 k0_pay886 k0_pay884 k0_pay885
  rw [← hC]
  rw [show ∀ (v : FVec Ideal S512x768 .f32) (hc), shapeCast S1x512x768 v hc (ix3 (n0 := 1) (n1 := 512) (n2 := 768) 0 r n) = v (ix2 r n) from fun v hc => by pointwise]
  rw [add8]
  rw [Fin.sum_univ_eight]
  refine congr_arg₂ (· + ·) (congr_arg₂ (· + ·) (congr_arg₂ (· + ·) (congr_arg₂ (· + ·) (congr_arg₂ (· + ·) (congr_arg₂ (· + ·) (congr_arg₂ (· + ·) ?_ ?_) ?_) ?_) ?_) ?_) ?_) ?_
  · exact head_sum C W 0 0 (by omega) rfl _ _ _ r n
  · exact head_sum C W 1 64 (by omega) rfl _ _ _ r n
  · exact head_sum C W 2 128 (by omega) rfl _ _ _ r n
  · exact head_sum C W 3 192 (by omega) rfl _ _ _ r n
  · exact head_sum C W 4 256 (by omega) rfl _ _ _ r n
  · exact head_sum C W 5 320 (by omega) rfl _ _ _ r n
  · exact head_sum C W 6 384 (by omega) rfl _ _ _ r n
  · exact head_sum C W 7 448 (by omega) rfl _ _ _ r n

/-- The heads' projections, added up, of a batch. -/
theorem proj_apply (A : Vec Ideal S1x8x512x64 .f32) (L : Vec Ideal S1x8x512 .f32) (W : FVec Ideal S512x768 .bf16) (r : Fin 512) (n : Fin 768) :
    R32 (k0_pay1 (F := Ideal) W (k0_pay883 A L) (k0_pay886 W (k0_pay883 A L) (k0_pay884 W A L) (k0_pay885 W A L)) (ix3 (n0 := 1) (n1 := 512) (n2 := 768) 0 r n))
      = ∑ h : Fin 8, ∑ e : Fin 64, Ideal.div (R32 (A (ix4 (n0 := 1) (n1 := 8) (n2 := 512) (n3 := 64) 0 h r e))) (R32 (L (ix3 (n0 := 1) (n1 := 8) (n2 := 512) 0 h r)))
          * R16 (W (ix2 (n0 := 512) (n1 := 768) ⟨64 * h + e, by omega⟩ n)) := by
  refine (projC _ W A L rfl r n).trans (Finset.sum_congr rfl fun h _ => Finset.sum_congr rfl fun e _ => ?_)
  rw [ctx_apply]

end Cert.Ring

end
-- ==== Proof.Count.lean ====
module
public import proofs.«01_k».proof.Proof.Parts
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
/-! # Sums over blocks of keys

The updates cover, block by block, exactly the unmasked keys of the other devices. -/

/-- The block of rows at place `k` of device `o`, as a natural number. -/
def ordN (o : Dev nD) (k : ℕ) : ℕ := if h : k < 8 then (ordv o ⟨k, h⟩).val else 0
/-- The row that lies at row `p` of device `o`, as a natural number. -/
def rowN (o : Dev nD) (p : ℕ) : ℕ := 64 * ordN o (p / 64) + p % 64
theorem ordN_val (o : Dev nD) (k : Fin 8) : ordN o k = (ordv o k).val := dif_pos k.isLt
theorem rowN_val (o : Dev nD) (p : Fin 512) : rowN o p = (rowAt o p).val := by
  unfold rowN ordN
  rw [dif_pos (show p.val / 64 < 8 by omega)]
  rfl
theorem rowN_blk (o : Dev nD) (B : Fin 8) (t : ℕ) (ht : t < 64) : rowN o (64 * B.val + t) = 64 * (ordv o B).val + t := by
  unfold rowN
  rw [show (64 * B.val + t) / 64 = B.val by omega, show (64 * B.val + t) % 64 = t by omega, ordN_val]

theorem ordv_bij (o : Dev nD) : Function.Bijective (ordv o) := by revert o; decide
theorem org_bij (b : Fin 2) (d : Dev nD) : Function.Bijective (fun s : Fin 4 => org b s d) := by revert b d; decide

/-- 512 keys as eight blocks of 64. -/
theorem sum_blocks (g : ℕ → EReal) : ∑ i : Fin 512, g i = ∑ B : Fin 8, ∑ t : Fin 64, g (64 * B + t) := by
  rw [← Fintype.sum_prod_type' (f := fun (B : Fin 8) (t : Fin 64) => g (64 * B + t))]
  refine (Fintype.sum_equiv (finProdFinEquiv (m := 8) (n := 64)) _ (fun i : Fin 512 => g i) fun x => ?_).symm
  show g (64 * x.1 + x.2) = g (x.2 + 64 * x.1)
  rw [Nat.add_comm]
/-- A range of whole blocks. -/
theorem sum_part (F : ℕ → EReal) (ko k : ℕ) (h1 : 64 ∣ ko) (h2 : 64 ∣ k) (h3 : ko + k ≤ 512) :
    ∑ j : Fin k, F (ko + j) = ∑ B : Fin 8, if ko ≤ 64 * B ∧ 64 * B < ko + k then ∑ t : Fin 64, F (64 * B + t) else 0 := by
  have e : ∑ j : Fin k, F (ko + j) = ∑ i : Fin 512, if ko ≤ i.val ∧ i.val < ko + k then F i else 0 := by
    rw [← Finset.sum_filter]
    refine Finset.sum_bij (fun j _ => (⟨ko + j.val, by omega⟩ : Fin 512)) (fun j _ => ?_) (fun a _ b _ hab => ?_) (fun i hi => ?_) (fun j _ => rfl)
    · rw [Finset.mem_filter]; exact ⟨Finset.mem_univ _, by show ko ≤ ko + j.val; omega, by show ko + j.val < ko + k; omega⟩
    · have := congrArg Fin.val hab
      change ko + a.val = ko + b.val at this
      exact Fin.ext (by omega)
    · rw [Finset.mem_filter] at hi
      exact ⟨⟨i.val - ko, by omega⟩, Finset.mem_univ _, Fin.ext (by show ko + (i.val - ko) = i.val; omega)⟩
  rw [e, sum_blocks (fun i => if ko ≤ i ∧ i < ko + k then F i else 0)]
  refine Finset.sum_congr rfl fun B _ => ?_
  obtain ⟨a, rfl⟩ := h1
  obtain ⟨c, rfl⟩ := h2
  by_cases hc : 64 * a ≤ 64 * B.val ∧ 64 * B.val < 64 * a + 64 * c
  · rw [if_pos hc]
    exact Finset.sum_congr rfl fun t _ => if_pos (by omega)
  · rw [if_neg hc]
    exact Finset.sum_eq_zero fun t _ => if_neg (by omega)

/-- Update `u` takes rows at `p` against keys at `j`, stage `s`, batch `b`. -/
abbrev Upd.takes (u : Upd) (b p s j : ℕ) : Prop := u.s = s ∧ (b = u.b ∧ u.ro ≤ p ∧ p < u.ro + u.n) ∧ u.ko ≤ j ∧ j < u.ko + u.k
/-- Whole blocks of rows and keys. -/
abbrev Upd.whole (u : Upd) : Prop := (u.s = 1 ∨ u.s = 2 ∨ u.s = 3) ∧ 64 ∣ u.ro ∧ 64 ∣ u.n ∧ 64 ∣ u.ko ∧ 64 ∣ u.k ∧ u.ko + u.k ≤ 512
/-- How often the updates take a block of rows against a block of keys. -/
abbrev times (us : List Upd) (b p s j : ℕ) : ℕ := (us.map fun u => if u.takes b p s j then 1 else 0).sum
/-- The updates take every block of rows against exactly the unmasked blocks of keys, once;
the moves carry every block of rows to its own. -/
abbrev Fits (d : Dev nD) (us : List Upd) (ms : List Mv) : Prop :=
  (∀ u ∈ us, u.whole)
  ∧ (∀ (b : Fin 2) (P B : Fin 8) (s : Fin 3), times us b (64 * P) (s + 1) (64 * B)
      = if Msk (8 * d + ordv d P) (8 * (org b (s + 1) d).val + ordv (org b (s + 1) d) B) then 1 else 0)
  ∧ (∀ m ∈ ms, 64 ∣ m.ro)
  ∧ ∀ (b : Fin 2) (P : Fin 8), (ms.filter fun m => b.val = m.b ∧ m.ro = 64 * (ordv d P).val).map Mv.src = [64 * P.val]

theorem moves (d : Dev nD) {us ms} (hf : Fits d us ms) (b : Fin 2) (P : Fin 8) (t : Fin 64) (G : ℕ → EReal) :
    (ms.map fun m => if b.val = m.b ∧ m.ro ≤ 64 * (ordv d P).val + t ∧ 64 * (ordv d P).val + t < m.ro + 64 then G (m.src + (64 * (ordv d P).val + t - m.ro)) else 0).sum
      = G (64 * P.val + t) := by
  have key : ∀ l : List Mv, (∀ m ∈ l, 64 ∣ m.ro) →
      (l.map fun m => if b.val = m.b ∧ m.ro ≤ 64 * (ordv d P).val + t ∧ 64 * (ordv d P).val + t < m.ro + 64 then G (m.src + (64 * (ordv d P).val + t - m.ro)) else 0).sum
        = (((l.filter fun m => b.val = m.b ∧ m.ro = 64 * (ordv d P).val).map Mv.src).map fun x => G (x + t)).sum := by
    intro l hl
    induction l with
    | nil => rfl
    | cons m l ih =>
      have ih := ih fun m hm => hl m (List.mem_cons_of_mem _ hm)
      obtain ⟨a, ha⟩ := hl m List.mem_cons_self
      rw [List.map_cons, List.sum_cons, ih]
      by_cases hc : b.val = m.b ∧ m.ro = 64 * (ordv d P).val
      · rw [if_pos (by omega), List.filter_cons_of_pos (by simpa using hc), List.map_cons, List.map_cons, List.sum_cons]
        rw [show 64 * (ordv d P).val + t - m.ro = t.val by omega]
      · rw [if_neg (by omega), List.filter_cons_of_neg (by simpa using hc), zero_add]
  rw [key ms hf.2.2.1, hf.2.2.2 b P]
  simp

theorem sparse (us : List Upd) (hw : ∀ u ∈ us, u.whole) (b : ℕ) (P : Fin 8) (t : Fin 64) (F : ℕ → ℕ → EReal) :
    (us.map fun u => if b = u.b ∧ u.ro ≤ 64 * P.val + t ∧ 64 * P.val + t < u.ro + u.n then ∑ j : Fin u.k, F u.s (u.ko + j) else 0).sum
      = ∑ s : Fin 3, ∑ B : Fin 8, times us b (64 * P) (s + 1) (64 * B) • ∑ t : Fin 64, F (s + 1) (64 * B + t) := by
  induction us with
  | nil => simp
  | cons u us ih =>
    have ih := ih fun u hu => hw u (List.mem_cons_of_mem _ hu)
    obtain ⟨h1, h2, h3, h4, h5, h6⟩ := hw u List.mem_cons_self
    rw [List.map_cons, List.sum_cons, ih]
    have split : ∀ (s : Fin 3) (B : Fin 8), times (u :: us) b (64 * P) (s + 1) (64 * B) • (∑ t : Fin 64, F (s + 1) (64 * B + t))
        = (if u.takes b (64 * P) (s + 1) (64 * B) then ∑ t : Fin 64, F (s + 1) (64 * B + t) else 0) + times us b (64 * P) (s + 1) (64 * B) • ∑ t : Fin 64, F (s + 1) (64 * B + t) := by
      intro s B
      rw [show times (u :: us) b (64 * P) (s + 1) (64 * B) = (if u.takes b (64 * P) (s + 1) (64 * B) then 1 else 0) + times us b (64 * P) (s + 1) (64 * B) from by
        unfold times; rw [List.map_cons, List.sum_cons]]
      rw [add_nsmul]
      congr 1
      split
      · rw [one_nsmul]
      · rw [zero_nsmul]
    rw [Finset.sum_congr rfl fun s _ => Finset.sum_congr rfl fun B _ => split s B]
    rw [Finset.sum_congr rfl fun s _ => Finset.sum_add_distrib, Finset.sum_add_distrib]
    congr 1
    by_cases hr : b = u.b ∧ u.ro ≤ 64 * P.val ∧ 64 * P.val < u.ro + u.n
    · rw [if_pos (by obtain ⟨a, ha⟩ := h2; obtain ⟨c, hc⟩ := h3; omega), sum_part (F u.s) u.ko u.k h4 h5 h6]
      have hs : ∃ s0 : Fin 3, u.s = s0.val + 1 := by
        rcases h1 with h | h | h
        · exact ⟨0, h⟩
        · exact ⟨1, h⟩
        · exact ⟨2, h⟩
      obtain ⟨s0, hs0⟩ := hs
      rw [Finset.sum_eq_single s0]
      · refine Finset.sum_congr rfl fun B _ => ?_
        rw [← hs0]
        refine if_congr ?_ rfl rfl
        exact ⟨fun h => ⟨rfl, hr, h⟩, fun h => h.2.2⟩
      · intro s _ hne
        refine Finset.sum_eq_zero fun B _ => if_neg fun h => hne (Fin.ext ?_)
        have := h.1; omega
      · intro h; exact absurd (Finset.mem_univ _) h
    · rw [if_neg (by obtain ⟨a, ha⟩ := h2; obtain ⟨c, hc⟩ := h3; omega)]
      exact (Finset.sum_eq_zero fun s _ => Finset.sum_eq_zero fun B _ => if_neg fun h => hr h.2.1).symm

/-- Own keys and the updates together: all unmasked keys. -/
theorem collapse (d : Dev nD) {us ms} (hf : Fits d us ms) (b : Fin 2) (P : Fin 8) (t : Fin 64) (f : Dev nD → ℕ → EReal) (r : ℕ) (hr : r = 64 * (ordv d P).val + t) :
    (us.map fun u => if b.val = u.b ∧ u.ro ≤ 64 * P.val + t ∧ 64 * P.val + t < u.ro + u.n then ∑ j : Fin u.k, f (org b u.s d) (rowN (org b u.s d) (u.ko + j)) else 0).sum
      + (∑ j : Fin 512, if Msk (8 * d + r / 64) (8 * d + j / 64) then f d j else 0)
      = ∑ o : Dev nD, ∑ j : Fin 512, if Msk (8 * d + r / 64) (8 * o + j / 64) then f o j else 0 := by
  have hq : r / 64 = (ordv d P).val := by omega
  rw [hq]
  rw [sparse us hf.1 b P t (fun s j => f (org b s d) (rowN (org b s d) j))]
  have one : ∀ s : Fin 3, (∑ B : Fin 8, times us b (64 * P) (s + 1) (64 * B) • ∑ t : Fin 64, f (org b (s + 1) d) (rowN (org b (s + 1) d) (64 * B + t)))
      = ∑ j : Fin 512, if Msk (8 * d + ordv d P) (8 * (org b (s + 1) d).val + j / 64) then f (org b (s + 1) d) j else 0 := by
    intro s
    rw [sum_blocks (fun j => if Msk (8 * d + ordv d P) (8 * (org b (s + 1) d).val + j / 64) then f (org b (s + 1) d) j else 0)]
    refine Fintype.sum_bijective (ordv (org b (s + 1) d)) (ordv_bij _) _ _ fun B => ?_
    rw [hf.2.1 b P B s]
    by_cases hm : Msk (8 * d + ordv d P) (8 * (org b (s + 1) d).val + ordv (org b (s + 1) d) B)
    · rw [if_pos hm, one_nsmul]
      refine Finset.sum_congr rfl fun x _ => ?_
      rw [rowN_blk _ _ _ x.isLt, if_pos]
      rw [show (64 * (ordv (org b (s + 1) d) B).val + x.val) / 64 = (ordv (org b (s + 1) d) B).val by omega]
      exact hm
    · rw [if_neg hm, zero_nsmul]
      refine (Finset.sum_eq_zero fun x _ => if_neg ?_).symm
      rw [show (64 * (ordv (org b (s + 1) d) B).val + x.val) / 64 = (ordv (org b (s + 1) d) B).val by omega]
      exact hm
  rw [Finset.sum_congr rfl fun s _ => one s]
  rw [← Fintype.sum_bijective _ (org_bij b d) (fun s : Fin 4 => ∑ j : Fin 512, if Msk (8 * d + ordv d P) (8 * (org b s d).val + j / 64) then f (org b s d) j else 0) _ (fun _ => rfl)]
  rw [Fin.sum_univ_succ (n := 3), add_comm]
  rfl

end Cert.Ring

end
-- ==== Proof.Ends.lean ====
module
public import proofs.«01_k».proof.Proof.Count
public import proofs.«01_k».proof.Proof.Steps
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Idealize.ShloMosaic.View (Piece canon)

/-! # The body's result in closed form -/

/-- Arrays read at natural coordinates. -/
def at2 {n0 n1 : ℕ} (v : (⟨2, ![n0, n1]⟩ : Shape).Idx → EReal) (i j : ℕ) : EReal := if h : i < n0 ∧ j < n1 then v (ix2 ⟨i, h.1⟩ ⟨j, h.2⟩) else 0
def at3 {n0 n1 n2 : ℕ} (v : (⟨3, ![n0, n1, n2]⟩ : Shape).Idx → EReal) (i j k : ℕ) : EReal :=
  if h : i < n0 ∧ j < n1 ∧ k < n2 then v (ix3 ⟨i, h.1⟩ ⟨j, h.2.1⟩ ⟨k, h.2.2⟩) else 0
def at4 {n0 n1 n2 n3 : ℕ} (v : (⟨4, ![n0, n1, n2, n3]⟩ : Shape).Idx → EReal) (i j k l : ℕ) : EReal :=
  if h : i < n0 ∧ j < n1 ∧ k < n2 ∧ l < n3 then v (ix4 ⟨i, h.1⟩ ⟨j, h.2.1⟩ ⟨k, h.2.2.1⟩ ⟨l, h.2.2.2⟩) else 0
theorem at2_eq {n0 n1 : ℕ} (v : (⟨2, ![n0, n1]⟩ : Shape).Idx → EReal) {i j : ℕ} (h0 : i < n0) (h1 : j < n1) : at2 v i j = v (ix2 ⟨i, h0⟩ ⟨j, h1⟩) := dif_pos ⟨h0, h1⟩
theorem at3_eq {n0 n1 n2 : ℕ} (v : (⟨3, ![n0, n1, n2]⟩ : Shape).Idx → EReal) {i j k : ℕ} (h0 : i < n0) (h1 : j < n1) (h2 : k < n2) :
    at3 v i j k = v (ix3 ⟨i, h0⟩ ⟨j, h1⟩ ⟨k, h2⟩) := dif_pos ⟨h0, h1, h2⟩
theorem at4_eq {n0 n1 n2 n3 : ℕ} (v : (⟨4, ![n0, n1, n2, n3]⟩ : Shape).Idx → EReal) {i j k l : ℕ} (h0 : i < n0) (h1 : j < n1) (h2 : k < n2) (h3 : l < n3) :
    at4 v i j k l = v (ix4 ⟨i, h0⟩ ⟨j, h1⟩ ⟨k, h2⟩ ⟨l, h3⟩) := dif_pos ⟨h0, h1, h2, h3⟩

/-- The scale of the scores. -/
abbrev eighth : EReal := Ideal.ofBits .f32 1040187392#32
/-- The scaled query of batch `b`, head `h`, row `r`. -/
def QH (x : Vec Ideal S2x512x768 .f32) (wq : Vec Ideal S768x512 .f32) (b h r e : ℕ) : EReal := (∑ n : Fin 768, at3 (n0 := 2) (n1 := 512) (n2 := 768) x b r n * at2 (n0 := 768) (n1 := 512) wq n (64 * h + e)) * eighth
/-- A head of a block of keys, or of values. -/
def KN (kk : Vec Ideal S2x512x8x64 .f32) (b h r e : ℕ) : EReal := at4 (n0 := 2) (n1 := 512) (n2 := 8) (n3 := 64) kk b r h e

/-! ## Matrices -/

/-- A load of a whole buffer, at an index. -/
theorem load_at {b : Ref sig .tc} (off size : Fin b.ty.shape.rank → ℕ) (inb) (f : b.ty.Contents (Elt Ideal)) (j : (Rect.unit off size inb).shape.Idx) (k : b.ty.shape.Idx)
    (h : ∀ a, (k a).val = off a + (j a).val) : View.readAt (Elt Ideal) (View.whole b) (Rect.unit off size inb).toLoadRect f j = f k :=
  congrArg f (funext fun a => Fin.ext (by rw [h a]; show off a + 1 * (j a).val = _; rw [Nat.one_mul]))

theorem load_m {b : Ref sig .tc} (off size : Fin b.ty.shape.rank → ℕ) (inb) (f : b.ty.Contents (Elt Ideal)) (j : (Rect.unit off size inb).shape.Idx) (k : b.ty.shape.Idx)
    (h : ∀ a, (k a).val = off a + (j a).val) : View.readAt (Elt Ideal) (Memref.whole b).view (Rect.unit off size inb).toLoadRect f j = f k := load_at off size inb f j k h
theorem resh (v : S2x512x768.Idx → EReal) (h0 : S2x512x768.ShapeCasts S2x512x768) (h1 : S2x512x768.ShapeCasts S1024x768) (i : Fin 1024) (n : Fin 768) :
    shapeCast S1024x768 (shapeCast S2x512x768 v h0) h1 (ix2 i n) = v (ix3 (n0 := 2) (n1 := 512) (n2 := 768) ⟨i / 512, by omega⟩ ⟨i % 512, by omega⟩ n) := by
  pointwise
theorem q_apply {x : Vec Ideal S2x512x768 .f32} {wq : Vec Ideal S768x512 .f32} {i0 i1} {h0 : S2x512x768.ShapeCasts S2x512x768} {h1 : S2x512x768.ShapeCasts S1024x768} {h2} {h3 : S768x512.ShapeCasts S768x512} {h4 h5} (i : Fin 1024) (j : Fin 512) :
    R16 ((truncf .bf16 (mulf (F := Ideal) (φ := .f32) (matmul (φ₁ := .bf16) (φ₂ := .bf16) dot_S1024x768_S768x512_S1024x512_1_0_0_1_n_n none
    (truncf (φ := .f32) .bf16 (shapeCast S1024x768 (shapeCast S2x512x768 (View.readAt (Elt Ideal) (Memref.whole cc0_stg0_0).view (Rect.unit (s := S2x512x768) ![0, 0, 0] S2x512x768.size i0).toLoadRect x) h0) h1) h2)
    (truncf (φ := .f32) .bf16 (shapeCast S768x512 (View.readAt (Elt Ideal) (Memref.whole cc0_stg1_0).view (Rect.unit (s := S768x512) ![0, 0] S768x512.size i1).toLoadRect wq) h3) h4)
    (constant S1024x512 .f32 0#32)) (broadcast (α := Elt Ideal .f32) S1024x512 (FloatOps.ofBits (F := Ideal) .f32 1040187392#32))) h5 : FVec Ideal S1024x512 .bf16) (ix2 i j))
      = (∑ n : Fin 768, at3 (n0 := 2) (n1 := 512) (n2 := 768) x (i / 512) (i % 512) n * at2 (n0 := 768) (n1 := 512) wq n j) * eighth := by
  have hm : ∀ (l : FVec Ideal S1024x768 .bf16) (q : FVec Ideal S768x512 .bf16),
      R32 (matmul dot_S1024x768_S768x512_S1024x512_1_0_0_1_n_n none l q (constant S1024x512 .f32 0#32) (ix2 i j)) = ∑ e : Fin 768, R16 (l (ix2 i e)) * R16 (q (ix2 e j)) := by
    intro l q; pointwise
  show R32 (matmul (F := Ideal) (φ₁ := .bf16) (φ₂ := .bf16) dot_S1024x768_S768x512_S1024x512_1_0_0_1_n_n none _ _ (constant S1024x512 .f32 0#32) (ix2 i j)) * eighth = _
  rw [hm]
  congr 1
  refine Finset.sum_congr rfl fun n _ => congr_arg₂ (· * ·) ?_ ?_
  · rw [at3_eq _ (show i.val / 512 < 2 by omega) (show i.val % 512 < 512 by omega) n.isLt]
    show shapeCast S1024x768 (shapeCast S2x512x768 (View.readAt (Elt Ideal) (Memref.whole cc0_stg0_0).view (Rect.unit (s := S2x512x768) ![0, 0, 0] S2x512x768.size i0).toLoadRect x) h0) h1 (ix2 i n) = _
    rw [resh (View.readAt (Elt Ideal) (Memref.whole cc0_stg0_0).view (Rect.unit (s := S2x512x768) ![0, 0, 0] S2x512x768.size i0).toLoadRect x) h0 h1 i n]
    refine load_m (b := cc0_stg0_0) ![0, 0, 0] S2x512x768.size i0 x _ _ fun a => ?_
    fin_cases a
    · show i.val / 512 = 0 + i.val / 512; omega
    · show i.val % 512 = 0 + i.val % 512; omega
    · show n.val = 0 + n.val; omega
  · rw [at2_eq _ n.isLt j.isLt]
    show shapeCast S768x512 (View.readAt (Elt Ideal) (Memref.whole cc0_stg1_0).view (Rect.unit (s := S768x512) ![0, 0] S768x512.size i1).toLoadRect wq) h3 (ix2 n j) = _
    refine (congrFun (shapeCast_id (s := S768x512) (View.readAt (Elt Ideal) (Memref.whole cc0_stg1_0).view (Rect.unit (s := S768x512) ![0, 0] S768x512.size i1).toLoadRect wq) h3) (ix2 n j)).trans ?_
    refine load_m (b := cc0_stg1_0) ![0, 0] S768x512.size i1 wq _ _ fun a => ?_
    fin_cases a
    · show n.val = 0 + n.val; omega
    · show j.val = 0 + j.val; omega

theorem mat0_apply (kk : Vec Ideal S2x512x8x64 .f32) (i j : Fin 512) : R16 (mat0 kk (ix2 i j)) = KN kk 0 (j / 64) i (j % 64) := by
  unfold KN
  rw [at4_eq _ (show 0 < 2 by omega) i.isLt (show j.val / 64 < 8 by omega) (show j.val % 64 < 64 by omega)]
  unfold mat0 k0_pay599
  pointwise
  refine load_at (b := cc0_stg2_0) ![0, 0, 0, 0] ![1, 512, 8, 64] inb_S2x512x8x64_S1x512x8x64_0_0_0_0 kk _ _ fun a => ?_
  fin_cases a <;> simp
theorem mat1_apply (kk : Vec Ideal S2x512x8x64 .f32) (i j : Fin 512) : R16 (mat1 kk (ix2 i j)) = KN kk 1 (j / 64) i (j % 64) := by
  unfold KN
  rw [at4_eq _ (show 1 < 2 by omega) i.isLt (show j.val / 64 < 8 by omega) (show j.val % 64 < 64 by omega)]
  unfold mat1 k0_pay600
  pointwise
  refine load_at (b := cc0_stg2_0) ![1, 0, 0, 0] ![1, 512, 8, 64] inb_S2x512x8x64_S1x512x8x64_1_0_0_0 kk _ _ fun a => ?_
  fin_cases a <;> simp
theorem mat2_apply (kk : Vec Ideal S2x512x8x64 .f32) (i j : Fin 512) : R16 (mat2 kk (ix2 i j)) = KN kk 0 (j / 64) i (j % 64) := by
  unfold KN
  rw [at4_eq _ (show 0 < 2 by omega) i.isLt (show j.val / 64 < 8 by omega) (show j.val % 64 < 64 by omega)]
  unfold mat2 k0_pay601
  pointwise
  refine load_at (b := cc0_stg3_0) ![0, 0, 0, 0] ![1, 512, 8, 64] inb_S2x512x8x64_S1x512x8x64_0_0_0_0 kk _ _ fun a => ?_
  fin_cases a <;> simp
theorem mat3_apply (kk : Vec Ideal S2x512x8x64 .f32) (i j : Fin 512) : R16 (mat3 kk (ix2 i j)) = KN kk 1 (j / 64) i (j % 64) := by
  unfold KN
  rw [at4_eq _ (show 1 < 2 by omega) i.isLt (show j.val / 64 < 8 by omega) (show j.val % 64 < 64 by omega)]
  unfold mat3 k0_pay602
  pointwise
  refine load_at (b := cc0_stg3_0) ![1, 0, 0, 0] ![1, 512, 8, 64] inb_S2x512x8x64_S1x512x8x64_1_0_0_0 kk _ _ fun a => ?_
  fin_cases a <;> simp

/-- The matrix in a slot. -/
theorem slot0_apply {s p : ℕ} {inb} {h : S1x1x512x512.ShapeCasts S512x512} (X : Vec Ideal S512x512 .bf16) (i j : Fin 512) :
    R16 (shapeCast S512x512 (View.readAt (Elt Ideal) (Memref.whole cc0_scratch0).view (Rect.unit (s := S4x2x512x512) ![s, p, 0, 0] S1x1x512x512.size inb).toLoadRect (spread X)) h (ix2 i j)) = X (ix2 i j) := by
  have hs : s + 1 ≤ 4 := inb 0
  have hp : p + 1 ≤ 2 := inb 1
  rw [shapeCast_apply _ h (ix2 i j) (ix4 (n0 := 1) (n1 := 1) (n2 := 512) (n3 := 512) 0 0 i j) (by
    rw [Shape.rowMajor_val_two, Shape.rowMajor_val_four]
    show ((0 * 1 + 0) * 512 + i.val) * 512 + j.val = i.val * 512 + j.val
    omega)]
  refine (load_at (b := cc0_scratch0) ![s, p, 0, 0] S1x1x512x512.size inb (spread X) _ (ix4 (n0 := 4) (n1 := 2) (n2 := 512) (n3 := 512) ⟨s, by omega⟩ ⟨p, by omega⟩ i j) fun a => ?_).trans ?_
  · fin_cases a
    · show s = s + 0; omega
    · show p = p + 0; omega
    · show i.val = 0 + i.val; omega
    · show j.val = 0 + j.val; omega
  · exact congrArg X (funext fun a => by fin_cases a <;> rfl)
theorem slot1_apply {s p : ℕ} {inb} {h : S1x1x512x512.ShapeCasts S512x512} (X : Vec Ideal S512x512 .bf16) (i j : Fin 512) :
    R16 (shapeCast S512x512 (View.readAt (Elt Ideal) (Memref.whole cc0_scratch1).view (Rect.unit (s := S4x2x512x512) ![s, p, 0, 0] S1x1x512x512.size inb).toLoadRect (spread X)) h (ix2 i j)) = X (ix2 i j) := by
  have hs : s + 1 ≤ 4 := inb 0
  have hp : p + 1 ≤ 2 := inb 1
  rw [shapeCast_apply _ h (ix2 i j) (ix4 (n0 := 1) (n1 := 1) (n2 := 512) (n3 := 512) 0 0 i j) (by
    rw [Shape.rowMajor_val_two, Shape.rowMajor_val_four]
    show ((0 * 1 + 0) * 512 + i.val) * 512 + j.val = i.val * 512 + j.val
    omega)]
  refine (load_at (b := cc0_scratch1) ![s, p, 0, 0] S1x1x512x512.size inb (spread X) _ (ix4 (n0 := 4) (n1 := 2) (n2 := 512) (n3 := 512) ⟨s, by omega⟩ ⟨p, by omega⟩ i j) fun a => ?_).trans ?_
  · fin_cases a
    · show s = s + 0; omega
    · show p = p + 0; omega
    · show i.val = 0 + i.val; omega
    · show j.val = 0 + j.val; omega
  · exact congrArg X (funext fun a => by fin_cases a <;> rfl)

/-! ## Lists of stores -/

theorem inbH : ∀ (b : Fin 2) (h : Fin 8) a, (![b.val, h.val, 0, 0] : Fin 4 → ℕ) a + S1x1x512x64.size a ≤ S2x8x512x64.size a := by decide
theorem sliceH {R ro : ℕ} (hro : ro + 512 ≤ R) (h : Fin 8) : (⟨2, ![R, 512]⟩ : Shape).Slices ![ro, 64 * h.val] S512x64 :=
  ⟨rfl, fun a => by
    fin_cases a
    · exact hro
    · show 64 * h.val + 64 ≤ 512; omega⟩
/-- One head's store. -/
abbrev headP {R : ℕ} (M : FVec Ideal ⟨2, ![R, 512]⟩ .bf16) (ro : ℕ) (hro : ro + 512 ≤ R) (b : Fin 2) (h : Fin 8) : Piece (Elt Ideal) S2x8x512x64 .bf16 :=
  ⟨Rect.unit (s := S2x8x512x64) ![b.val, h.val, 0, 0] S1x1x512x64.size (inbH b h),
    shapeCast S1x1x512x64 (extractStridedSlice S512x64 ![ro, 64 * h.val] M (sliceH hro h)) shapeCasts_S512x64_S1x1x512x64⟩
/-- The sixteen heads' stores, newest first, over any older ones. -/
theorem headsOf {R : ℕ} {M0 M1 : FVec Ideal ⟨2, ![R, 512]⟩ .bf16} {r0 r1 : ℕ} {p0 : r0 + 512 ≤ R} {p1 : r1 + 512 ≤ R} {L : Buf4h} {G : ℕ → ℕ → ℕ → ℕ → EReal}
    (h0 : ∀ (r : Fin 512) (j : Fin 512), R16 (M0 (ix2 (n0 := R) (n1 := 512) ⟨r0 + r, by omega⟩ j)) = G 0 (j / 64) r (j % 64))
    (h1 : ∀ (r : Fin 512) (j : Fin 512), R16 (M1 (ix2 (n0 := R) (n1 := 512) ⟨r1 + r, by omega⟩ j)) = G 1 (j / 64) r (j % 64)) :
    Is4h (headP M1 r1 p1 1 7 :: headP M1 r1 p1 1 6 :: headP M1 r1 p1 1 5 :: headP M1 r1 p1 1 4 :: headP M1 r1 p1 1 3 :: headP M1 r1 p1 1 2 :: headP M1 r1 p1 1 1 :: headP M1 r1 p1 1 0
      :: headP M0 r0 p0 0 7 :: headP M0 r0 p0 0 6 :: headP M0 r0 p0 0 5 :: headP M0 r0 p0 0 4 :: headP M0 r0 p0 0 3 :: headP M0 r0 p0 0 2 :: headP M0 r0 p0 0 1 :: headP M0 r0 p0 0 0 :: L) G := by
  have step : ∀ (M : FVec Ideal ⟨2, ![R, 512]⟩ .bf16) (ro : ℕ) (p : ro + 512 ≤ R) (b : Fin 2) (h : Fin 8) (x : Box) (bs : List Box) (L : Buf4h) (hx : x = ⟨b, h, 1, 0, 512⟩)
      (hM : ∀ (r : Fin 512) (j : Fin 512), R16 (M (ix2 (n0 := R) (n1 := 512) ⟨ro + r, by omega⟩ j)) = G b (j / 64) r (j % 64)),
      Part (e := .bf16) G bs L → Part (e := .bf16) G (x :: bs) (headP M ro p b h :: L) := by
    intro M ro p b h x bs L hx hM rest
    subst hx
    refine Part.cons (hn := 1) (rn := 512) (fun x1 x2 x3 => ?_) rest
    have e1 : x1 = 0 := Subsingleton.elim _ _
    subst e1
    rw [show shapeCast S1x1x512x64 (extractStridedSlice S512x64 ![ro, 64 * h.val] M (sliceH p h)) shapeCasts_S512x64_S1x1x512x64 (ix4 (n0 := 1) (n1 := 1) (n2 := 512) (n3 := 64) 0 0 x2 x3)
      = extractStridedSlice S512x64 ![ro, 64 * h.val] M (sliceH p h) (ix2 x2 x3) from by pointwise]
    rw [extractStridedSlice_apply _ _ _ _ (ix2 (n0 := R) (n1 := 512) ⟨ro + x2, by omega⟩ ⟨64 * h.val + x3, by omega⟩) (fun a => by fin_cases a <;> rfl)]
    refine (hM x2 ⟨64 * h.val + x3, by omega⟩).trans ?_
    show G b ((64 * h.val + x3.val) / 64) x2 ((64 * h.val + x3.val) % 64) = G b (h.val + 0) (0 + x2) x3
    rw [show (64 * h.val + x3.val) / 64 = h.val by omega, show (64 * h.val + x3.val) % 64 = x3.val by omega, Nat.zero_add, Nat.add_zero]
  refine Part.heads ?_
  iterate 8 refine step M1 r1 p1 1 _ _ _ _ (by rfl) h1 ?_
  iterate 8 refine step M0 r0 p0 0 _ _ _ _ (by rfl) h0 ?_
  exact Part.nil

theorem inbR : ∀ (b : Fin 2) (P : Fin 8) a, (![b.val, 0, 64 * P.val, 0] : Fin 4 → ℕ) a + (⟨4, ![1, 8, 64, 64]⟩ : Shape).size a ≤ S2x8x512x64.size a := by decide
/-- A block of rows' store. -/
abbrev rowP (Lq : Buf4h) (b : Fin 2) (P : Fin 8) (src : Fin 8) : Piece (Elt Ideal) S2x8x512x64 .bf16 :=
  ⟨Rect.unit (s := S2x8x512x64) ![b.val, 0, 64 * P.val, 0] (⟨4, ![1, 8, 64, 64]⟩ : Shape).size (inbR b P),
    shapeCast S1x8x64x64 (shapeCast S8x64x64 ((Memref.whole cc0_scratch2).view.readCov Lq (Rect.unit (s := S2x8x512x64) ![b.val, 0, 64 * src.val, 0] (⟨4, ![1, 8, 64, 64]⟩ : Shape).size (inbR b src)).toLoadRect)
      shapeCasts_S1x8x64x64_S8x64x64) shapeCasts_S8x64x64_S1x8x64x64⟩
/-- The blocks of rows in device `d`'s order. -/
abbrev rowList (Lq : Buf4h) (d : Dev nD) : Buf4h :=
  [rowP Lq 1 7 (ordv d 7), rowP Lq 0 7 (ordv d 7), rowP Lq 1 6 (ordv d 6), rowP Lq 0 6 (ordv d 6), rowP Lq 1 5 (ordv d 5), rowP Lq 0 5 (ordv d 5), rowP Lq 1 4 (ordv d 4), rowP Lq 0 4 (ordv d 4),
    rowP Lq 1 3 (ordv d 3), rowP Lq 0 3 (ordv d 3), rowP Lq 1 2 (ordv d 2), rowP Lq 0 2 (ordv d 2), rowP Lq 1 1 (ordv d 1), rowP Lq 0 1 (ordv d 1), rowP Lq 1 0 (ordv d 0), rowP Lq 0 0 (ordv d 0)]
theorem rowsOf {Lq : Buf4h} {G : ℕ → ℕ → ℕ → ℕ → EReal} (hq : Is4h Lq G) (d : Dev nD) : Is4h (rowList Lq d) (fun b h p e => G b h (rowN d p) e) := by
  have step : ∀ (b : Fin 2) (P : Fin 8) (x : Box) (bs : List Box) (L : Buf4h) (hx : x = ⟨b, 0, 8, 64 * P.val, 64⟩),
      Part (e := .bf16) (fun b h p e => G b h (rowN d p) e) bs L → Part (e := .bf16) (fun b h p e => G b h (rowN d p) e) (x :: bs) (rowP Lq b P (ordv d P) :: L) := by
    intro b P x bs L hx rest
    subst hx
    refine Part.cons (hn := 8) (rn := 64) (fun x1 x2 x3 => ?_) rest
    have e1 := fun (v : FVec Ideal S8x64x64 .bf16) => up4 (n := 64) v shapeCasts_S8x64x64_S1x8x64x64 x1 x2 x3
    refine (e1 _).trans ((strip4 (n := 64) hq b (64 * (ordv d P).val) (inbR b (ordv d P)) shapeCasts_S1x8x64x64_S8x64x64 x1 x2 x3).trans ?_)
    show G b x1 (64 * (ordv d P).val + x2) x3 = G b (0 + x1) (rowN d (64 * P.val + x2)) x3
    rw [rowN_blk d P x2 x2.isLt, Nat.zero_add]
  refine Part.blocks ?_
  iterate 16 refine step _ _ _ _ _ (by rfl) ?_
  exact Part.nil

/-! ## The output -/

/-- A batch's normalised rows. -/
abbrev ctxRaw (A : Vec Ideal S1x8x512x64 .f32) (L : Vec Ideal S1x8x512 .f32) : FVec Ideal S8x512x64 .bf16 :=
  truncf (φ := .f32) .bf16 (divf (F := Ideal) (φ := .f32) (shapeCast S8x512x64 A shapeCasts_S1x8x512x64_S8x512x64)
    (broadcastTo S8x512x64 (shapeCast S8x512x1 (shapeCast S8x512 L shapeCasts_S1x8x512_S8x512) shapeCasts_S8x512_S8x512x1) broadcasts_S8x512x1_S8x512x64)) bitsLt_bf16_f32
/-- One head's projection. -/
abbrev oneRaw (C : FVec Ideal S8x512x64 .bf16) (W : FVec Ideal S512x768 .bf16) (h o : ℕ) (s1 : S8x512x64.Slices ![h, 0, 0] S1x512x64) (s2 : S512x768.Slices ![o, 0] S64x768) : FVec Ideal S512x768 .f32 :=
  matmul (φ₁ := .bf16) (φ₂ := .bf16) dot_S512x64_S64x768_S512x768_1_0_0_1_n_n none (shapeCast S512x64 (extractStridedSlice S1x512x64 ![h, 0, 0] C s1) shapeCasts_S1x512x64_S512x64) (extractStridedSlice S64x768 ![o, 0] W s2) (constant S512x768 .f32 0#32)
/-- A batch's output, as the body computes it. -/
abbrev projRaw (W : FVec Ideal S512x768 .bf16) (C : FVec Ideal S8x512x64 .bf16) : Vec Ideal S1x512x768 .f32 :=
  shapeCast S1x512x768 (addf (F := Ideal) (φ := .f32) (addf (addf (addf (addf (addf (addf
    (oneRaw C W 0 0 slices_S8x512x64_o0_0_0_S1x512x64 slices_S512x768_o0_0_S64x768)
    (oneRaw C W 1 64 slices_S8x512x64_o1_0_0_S1x512x64 slices_S512x768_o64_0_S64x768))
    (oneRaw C W 2 128 slices_S8x512x64_o2_0_0_S1x512x64 slices_S512x768_o128_0_S64x768))
    (oneRaw C W 3 192 slices_S8x512x64_o3_0_0_S1x512x64 slices_S512x768_o192_0_S64x768))
    (oneRaw C W 4 256 slices_S8x512x64_o4_0_0_S1x512x64 slices_S512x768_o256_0_S64x768))
    (oneRaw C W 5 320 slices_S8x512x64_o5_0_0_S1x512x64 slices_S512x768_o320_0_S64x768))
    (oneRaw C W 6 384 slices_S8x512x64_o6_0_0_S1x512x64 slices_S512x768_o384_0_S64x768))
    (oneRaw C W 7 448 slices_S8x512x64_o7_0_0_S1x512x64 slices_S512x768_o448_0_S64x768)) shapeCasts_S512x768_S1x512x768
theorem projRaw_apply (A : Vec Ideal S1x8x512x64 .f32) (L : Vec Ideal S1x8x512 .f32) (W : FVec Ideal S512x768 .bf16) (r : Fin 512) (n : Fin 768) :
    R32 (projRaw W (ctxRaw A L) (ix3 (n0 := 1) (n1 := 512) (n2 := 768) 0 r n))
      = ∑ h : Fin 8, ∑ e : Fin 64, Ideal.div (R32 (A (ix4 (n0 := 1) (n1 := 8) (n2 := 512) (n3 := 64) 0 h r e))) (R32 (L (ix3 (n0 := 1) (n1 := 8) (n2 := 512) 0 h r)))
          * R16 (W (ix2 (n0 := 512) (n1 := 768) ⟨64 * h + e, by omega⟩ n)) := by
  have := proj_apply A L W r n
  unfold k0_pay1 k0_pay886 k0_pay884 k0_pay885 k0_pay883 at this
  exact this

/-- The rows of a batch, and their sums of weights, read back. -/
abbrev accB (La : Buf4) (b : ℕ) (inb : ∀ a, (![b, 0, 0, 0] : Fin 4 → ℕ) a + S1x8x512x64.size a ≤ S2x8x512x64.size a) : Vec Ideal S1x8x512x64 .f32 :=
  (Memref.whole cc0_scratch6).view.readCov La (Rect.unit (s := S2x8x512x64) ![b, 0, 0, 0] S1x8x512x64.size inb).toLoadRect
abbrev sumB (Ll : Buf3) (b : ℕ) (inb : ∀ a, (![b, 0, 0] : Fin 3 → ℕ) a + S1x8x512.size a ≤ S2x8x512.size a) : Vec Ideal S1x8x512 .f32 :=
  (Memref.whole cc0_scratch8).view.readCov Ll (Rect.unit (s := S2x8x512) ![b, 0, 0] S1x8x512.size inb).toLoadRect
abbrev woRaw (wo : Vec Ideal S512x768 .f32) (i : ∀ a, (![0, 0] : Fin 2 → ℕ) a + S512x768.size a ≤ S512x768.size a) (h : S512x768.ShapeCasts S512x768) : FVec Ideal S512x768 .bf16 :=
  truncf (φ := .f32) .bf16 (shapeCast S512x768 (View.readAt (Elt Ideal) (Memref.whole cc0_stg4_0).view (Rect.unit (s := S512x768) ![0, 0] S512x768.size i).toLoadRect wo) h) bitsLt_bf16_f32
theorem woRaw_apply (wo : Vec Ideal S512x768 .f32) (i h) (k : Fin 512) (n : Fin 768) : R16 (woRaw wo i h (ix2 k n)) = at2 (n0 := 512) (n1 := 768) wo k n := by
  rw [at2_eq _ k.isLt n.isLt]
  show shapeCast S512x768 (View.readAt (Elt Ideal) (Memref.whole cc0_stg4_0).view (Rect.unit (s := S512x768) ![0, 0] S512x768.size i).toLoadRect wo) h (ix2 k n) = _
  refine (congrFun (shapeCast_id (s := S512x768) (View.readAt (Elt Ideal) (Memref.whole cc0_stg4_0).view (Rect.unit (s := S512x768) ![0, 0] S512x768.size i).toLoadRect wo) h) (ix2 k n)).trans ?_
  refine load_m (b := cc0_stg4_0) ![0, 0] S512x768.size i wo _ _ fun a => ?_
  fin_cases a
  · show k.val = 0 + k.val; omega
  · show n.val = 0 + n.val; omega

theorem laid_eq (L : List (Piece (Elt Ideal) S2x512x768 .f32)) : laid L = canon L :=
  View.read_writes_junk_eq_canon (Memref.whole cc0_stg5_0).view L

/-- The two stores of the output. -/
inductive OutT (La : Buf4) (Ll : Buf3) (wo : Vec Ideal S512x768 .f32) : List (Piece (Elt Ideal) S2x512x768 .f32) → Prop
  | mk {i1 i0 w h a1 a0 l1 l0} : OutT La Ll wo
      [⟨Rect.unit (s := S2x512x768) ![1, 0, 0] S1x512x768.size i1, projRaw (woRaw wo w h) (ctxRaw (accB La 1 a1) (sumB Ll 1 l1))⟩,
        ⟨Rect.unit (s := S2x512x768) ![0, 0, 0] S1x512x768.size i0, projRaw (woRaw wo w h) (ctxRaw (accB La 0 a0) (sumB Ll 0 l0))⟩]

theorem projB {La : Buf4} {Ll : Buf3} {GA GS} (ha : Is4 La GA) (hl : Is3 Ll GS) (wo : Vec Ideal S512x768 .f32) (b : Fin 2) (w h a l) (r : Fin 512) (n : Fin 768) :
    R32 (projRaw (woRaw wo w h) (ctxRaw (accB La b a) (sumB Ll b l)) (ix3 (n0 := 1) (n1 := 512) (n2 := 768) 0 r n))
      = ∑ h : Fin 8, ∑ e : Fin 64, Ideal.div (GA b h r e) (GS b h r) * at2 (n0 := 512) (n1 := 768) wo (64 * h + e) n := by
  refine (projRaw_apply _ _ _ r n).trans (Finset.sum_congr rfl fun h _ => Finset.sum_congr rfl fun e _ => ?_)
  have e1 : R32 (accB La b a (ix4 (n0 := 1) (n1 := 8) (n2 := 512) (n3 := 64) 0 h r e)) = GA b h r e := by
    rw [← ha b h r e]
    show R32 ((Memref.whole cc0_scratch6).view.readCov La _ _) = _
    rw [View.readCov_eq_canon']
    refine congrArg (canon La) (funext fun a => Fin.ext ?_)
    fin_cases a
    · show b.val + 1 * 0 = b.val; omega
    · show 0 + 1 * h.val = h.val; omega
    · show 0 + 1 * r.val = r.val; omega
    · show 0 + 1 * e.val = e.val; omega
  have e2 : R32 (sumB Ll b l (ix3 (n0 := 1) (n1 := 8) (n2 := 512) 0 h r)) = GS b h r := by
    rw [← hl b h r]
    show R32 ((Memref.whole cc0_scratch8).view.readCov Ll _ _) = _
    rw [View.readCov_eq_canon']
    refine congrArg (canon Ll) (funext fun a => Fin.ext ?_)
    fin_cases a
    · show b.val + 1 * 0 = b.val; omega
    · show 0 + 1 * h.val = h.val; omega
    · show 0 + 1 * r.val = r.val; omega
  rw [e1, e2, woRaw_apply]

theorem OutT.sound {La : Buf4} {Ll : Buf3} {wo Lo} (hT : OutT La Ll wo Lo) {GA GS} (ha : Is4 La GA) (hl : Is3 Ll GS) (b : Fin 2) (r : Fin 512) (n : Fin 768) :
    R32 (laid Lo (ix3 b r n)) = ∑ h : Fin 8, ∑ e : Fin 64, Ideal.div (GA b h r e) (GS b h r) * at2 (n0 := 512) (n1 := 768) wo (64 * h + e) n := by
  cases hT with
  | @mk i1 i0 w h a1 a0 l1 l0 =>
    rw [laid_eq]
    obtain ⟨hin, hout⟩ := canon_unit (s := S2x512x768) (e := .f32) ![1, 0, 0] S1x512x768.size i1 (projRaw (woRaw wo w h) (ctxRaw (accB La 1 a1) (sumB Ll 1 l1)))
      [⟨Rect.unit (s := S2x512x768) ![0, 0, 0] S1x512x768.size i0, projRaw (woRaw wo w h) (ctxRaw (accB La 0 a0) (sumB Ll 0 l0))⟩] (ix3 b r n)
    obtain ⟨hin0, -⟩ := canon_unit (s := S2x512x768) (e := .f32) ![0, 0, 0] S1x512x768.size i0 (projRaw (woRaw wo w h) (ctxRaw (accB La 0 a0) (sumB Ll 0 l0))) [] (ix3 b r n)
    by_cases hb : b = 1
    · subst hb
      refine (hin (ix3 (n0 := 1) (n1 := 512) (n2 := 768) 0 r n) fun a => ?_).trans (projB ha hl wo 1 w h a1 l1 r n)
      fin_cases a
      · rfl
      · show r.val = 0 + r.val; omega
      · show n.val = 0 + n.val; omega
    · have hb0 : b = 0 := by omega
      subst hb0
      refine (hout fun h => absurd (show (1 : ℕ) ≤ 0 from (h 0).1) (by omega)).trans ((hin0 (ix3 (n0 := 1) (n1 := 512) (n2 := 768) 0 r n) fun a => ?_).trans (projB ha hl wo 0 w h a0 l0 r n))
      fin_cases a
      · rfl
      · show r.val = 0 + r.val; omega
      · show n.val = 0 + n.val; omega

/-! ## The whole -/

/-- The sums over all unmasked keys of all devices. -/
def lAll (d : Dev nD) (x : Vec Ideal S2x512x768 .f32) (wq : Vec Ideal S768x512 .f32) (K : Dev nD → Vec Ideal S2x512x8x64 .f32) (b h r : ℕ) : EReal :=
  ∑ o : Dev nD, ∑ j : Fin 512, if Msk (8 * d + r / 64) (8 * o + j / 64) then wt (QH x wq) (KN (K o)) b h r j else 0
def aAll (d : Dev nD) (x : Vec Ideal S2x512x768 .f32) (wq : Vec Ideal S768x512 .f32) (K V : Dev nD → Vec Ideal S2x512x8x64 .f32) (b h r e : ℕ) : EReal :=
  ∑ o : Dev nD, ∑ j : Fin 512, if Msk (8 * d + r / 64) (8 * o + j / 64) then wt (QH x wq) (KN (K o)) b h r j * KN (V o) b h j e else 0
/-- Device `d`'s result. -/
def outF (d : Dev nD) (x : Vec Ideal S2x512x768 .f32) (wq : Vec Ideal S768x512 .f32) (K V : Dev nD → Vec Ideal S2x512x8x64 .f32) (wo : Vec Ideal S512x768 .f32) (b r n : ℕ) : EReal :=
  ∑ h : Fin 8, ∑ e : Fin 64, Ideal.div (aAll d x wq K V b h r e) (lAll d x wq K b h r) * at2 (n0 := 512) (n1 := 768) wo (64 * h + e) n

/-- What stage `s` receives on device `d`. -/
def KS (K : Dev nD → Vec Ideal S2x512x8x64 .f32) (d : Dev nD) (s b h p e : ℕ) : EReal := KN (K (org b s d)) b h (rowN (org b s d) p) e

theorem place (d : Dev nD) (r : Fin 512) : ∃ (P : Fin 8) (t : Fin 64), r.val = 64 * (ordv d P).val + t.val := by
  obtain ⟨P, hP⟩ := (ordv_bij d).2 ⟨r.val / 64, by omega⟩
  refine ⟨P, ⟨r.val % 64, by omega⟩, ?_⟩
  rw [hP]; show r.val = 64 * (r.val / 64) + r.val % 64; omega

theorem whole (d : Dev nD) (x : Vec Ideal S2x512x768 .f32) (wq : Vec Ideal S768x512 .f32) (K V : Dev nD → Vec Ideal S2x512x8x64 .f32) (wo : Vec Ideal S512x768 .f32)
    {Lo La Ll Lp Ap LD AD Lq Lk Lv Lqp K1 K2 K3 V1 V2 V3 us ms}
    (hO : OutT La Ll wo Lo) (hl : FinL Lp LD Ll ms) (ha : FinA Ap AD La ms) (hdl : DenL d Lq Lk LD four4) (hda : DenA d Lq Lk Lv AD four4)
    (hlp : LpT Lqp K1 K2 K3 Lp us) (hap : ApT Lqp K1 K2 K3 V1 V2 V3 Ap us)
    (hq : Is4h Lq (QH x wq)) (hqp : Lqp = rowList Lq d) (hk : Is4h Lk (KN (K d))) (hv : Is4h Lv (KN (V d)))
    (hK : Stages K1 K2 K3 (KS K d)) (hV : Stages V1 V2 V3 (KS V d)) (hf : Fits d us ms) (b : Fin 2) (r : Fin 512) (n : Fin 768) :
    R32 (laid Lo (ix3 b r n)) = outF d x wq K V wo b r n := by
  subst hqp
  have q' := rowsOf hq d
  have hL := hl.sound (hlp.sound q' hK) (hdl.sound hq hk)
  have hA := ha.sound (hap.sound q' hK hV) (hda.sound hq hk hv)
  refine (hO.sound hA hL b r n).trans (Finset.sum_congr rfl fun h _ => Finset.sum_congr rfl fun e _ => ?_)
  obtain ⟨P, t, hr⟩ := place d r
  have hrow : rowN d (64 * P.val + t) = r := by rw [rowN_blk d P t t.isLt, hr]
  congr 2
  · beta_reduce
    rw [hr, moves d hf b P t (fun p => (us.map fun u => aAdd (fun b h p e => QH x wq b h (rowN d p) e) (KS K d) (KS V d) u b h p e).sum), ← hr]
    refine Eq.trans ?_ (collapse d hf b P t (fun o j => wt (QH x wq) (KN (K o)) b h r j * KN (V o) b h j e) r hr)
    congr 1
    · refine congrArg List.sum (List.map_congr_left fun u _ => ?_)
      unfold aAdd
      refine if_congr Iff.rfl (Finset.sum_congr rfl fun j _ => ?_) rfl
      rw [← hrow]; rfl
    · refine Finset.sum_congr rfl fun j _ => ?_
      split
      · rfl
      · exact zero_mul _
  · beta_reduce
    rw [hr, moves d hf b P t (fun p => (us.map fun u => lAdd (fun b h p e => QH x wq b h (rowN d p) e) (KS K d) u b h p).sum), ← hr]
    refine Eq.trans ?_ (collapse d hf b P t (fun o j => wt (QH x wq) (KN (K o)) b h r j) r hr)
    congr 1
    refine congrArg List.sum (List.map_congr_left fun u _ => ?_)
    unfold lAdd
    refine if_congr Iff.rfl (Finset.sum_congr rfl fun j _ => ?_) rfl
    rw [← hrow]; rfl

end Cert.Ring

end
-- ==== Proof.Trace.lean ====
module
public import proofs.«01_k».proof.Proof.Ends
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
set_option maxHeartbeats 4000000
set_option maxRecDepth 100000
open Idealize.ShloMosaic.View (Piece canon)

/-! ## The mask of a device's own keys -/

/-- The block a row number lies in, as the kernel computes it. -/
def blockWord (v : BitVec 32) : BitVec 32 :=
  Scalar.select (IntOp.andi (IntOp.cmpi .ne (IntOp.subi ((IntOp.cmpi .sgt v 0#32).setWidth 32) ((IntOp.cmpi .slt v 0#32).setWidth 32)) 1#32) (IntOp.cmpi .ne (IntOp.remsi .vector v 64#32) 0#32))
    (IntOp.subi (IntOp.divsi .vector v 64#32) 1#32) (IntOp.divsi .vector v 64#32)
/-- Whether a block of keys is kept for a block of queries, as the kernel computes it. -/
def keepWord (q k : BitVec 32) : BitVec 1 :=
  IntOp.ori (IntOp.ori (IntOp.cmpi .eq q k) (IntOp.cmpi .eq k 0#32)) (IntOp.cmpi .eq (IntOp.remsi .vector (IntOp.addi q k) 3#32) 0#32)
theorem blockWord_of : ∀ i : Fin 512, blockWord (BitVec.ofNat 32 (0 * 512 + i.val)) = BitVec.ofNat 32 (i.val / 64) := by decide +kernel
theorem keepWord_of : ∀ (d : Fin 4) (a b : Fin 8), keepWord (IntOp.addi (BitVec.ofNat 32 (8 * d.val)) (BitVec.ofNat 32 a.val)) (IntOp.addi (BitVec.ofNat 32 (8 * d.val)) (BitVec.ofNat 32 b.val)) = 1#1
    ↔ Msk (8 * d.val + a.val) (8 * d.val + b.val) := by decide +kernel
theorem isMask_of (d : Fin 4) {M : IVec S512x512 1} (hM : ∀ i j : Fin 512, M (ix2 i j) = keepWord (IntOp.addi (BitVec.ofNat 32 (8 * d.val)) (blockWord (BitVec.ofNat 32 (0 * 512 + i.val)))) (IntOp.addi (BitVec.ofNat 32 (8 * d.val)) (blockWord (BitVec.ofNat 32 (0 * 512 + j.val))))) :
    IsMask d.val M := by
  intro i j
  rw [hM, blockWord_of, blockWord_of]
  exact keepWord_of d ⟨i.val / 64, by omega⟩ ⟨j.val / 64, by omega⟩

/-! ## The heads' stores -/

abbrev headList {R : ℕ} (M0 M1 : FVec Ideal ⟨2, ![R, 512]⟩ .bf16) (r0 r1 : ℕ) (p0 : r0 + 512 ≤ R) (p1 : r1 + 512 ≤ R) (L : Buf4h) : Buf4h :=
  headP M1 r1 p1 1 7 :: headP M1 r1 p1 1 6 :: headP M1 r1 p1 1 5 :: headP M1 r1 p1 1 4 :: headP M1 r1 p1 1 3 :: headP M1 r1 p1 1 2 :: headP M1 r1 p1 1 1 :: headP M1 r1 p1 1 0
      :: headP M0 r0 p0 0 7 :: headP M0 r0 p0 0 6 :: headP M0 r0 p0 0 5 :: headP M0 r0 p0 0 4 :: headP M0 r0 p0 0 3 :: headP M0 r0 p0 0 2 :: headP M0 r0 p0 0 1 :: headP M0 r0 p0 0 0 :: L
theorem headsOf_same {M0 M1 : FVec Ideal S512x512 .bf16} {L : Buf4h} {G : ℕ → ℕ → ℕ → ℕ → EReal}
    (h0 : ∀ i j : Fin 512, R16 (M0 (ix2 i j)) = G 0 (j / 64) i (j % 64)) (h1 : ∀ i j : Fin 512, R16 (M1 (ix2 i j)) = G 1 (j / 64) i (j % 64)) :
    Is4h (headList (R := 512) M0 M1 0 0 (by omega) (by omega) L) G := by
  have z : ∀ (i : Fin 512) (p : 0 + i.val < 512), (⟨0 + i.val, p⟩ : Fin 512) = i := fun i p => Fin.ext (Nat.zero_add _)
  apply headsOf
  · intro r j; rw [z]; exact h0 r j
  · intro r j; rw [z]; exact h1 r j
theorem headsOf_q {M : FVec Ideal S1024x512 .bf16} {x : Vec Ideal S2x512x768 .f32} {wq : Vec Ideal S768x512 .f32}
    (hM : ∀ (i : Fin 1024) (j : Fin 512), R16 (M (ix2 i j)) = (∑ n : Fin 768, at3 (n0 := 2) (n1 := 512) (n2 := 768) x (i / 512) (i % 512) n * at2 (n0 := 768) (n1 := 512) wq n j) * eighth) :
    Is4h (headList (R := 1024) M M 0 512 (by omega) (by omega) []) (QH x wq) := by
  apply headsOf
  · intro r j
    rw [hM]
    unfold QH
    show (∑ n : Fin 768, at3 (n0 := 2) (n1 := 512) (n2 := 768) x ((0 + r.val) / 512) ((0 + r.val) % 512) n * at2 (n0 := 768) (n1 := 512) wq n j) * eighth = _
    rw [show (0 + r.val) / 512 = 0 by omega, show (0 + r.val) % 512 = r.val by omega, show 64 * (j.val / 64) + j.val % 64 = j.val by omega]
  · intro r j
    rw [hM]
    unfold QH
    show (∑ n : Fin 768, at3 (n0 := 2) (n1 := 512) (n2 := 768) x ((512 + r.val) / 512) ((512 + r.val) % 512) n * at2 (n0 := 768) (n1 := 512) wq n j) * eighth = _
    rw [show (512 + r.val) / 512 = 1 by omega, show (512 + r.val) % 512 = r.val by omega, show 64 * (j.val / 64) + j.val % 64 = j.val by omega]

/-- What the devices send: batch `b`'s keys (values) in the device's own order. -/
def Sent (Y : ℕ → Dev nD → Vec Ideal S512x512 .bf16) (l b : ℕ) (K : Dev nD → Vec Ideal S2x512x8x64 .f32) : Prop :=
  ∀ (o : Dev nD) (i j : Fin 512), R16 (Y l o (ix2 i j)) = KN (K o) b (j / 64) (rowN o i) (j % 64)

end Cert.Ring

end
-- ==== Proof.Value.lean ====
module
public import proofs.«01_k».proof.Proof.Trace
public import proofs.«01_k».proof.Proof.Body
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
set_option maxHeartbeats 4000000
set_option maxRecDepth 100000
open Idealize.ShloMosaic.View (Piece canon)
/-- What the body leaves, on any device. -/
theorem run_value (d : Dev nD) (Y : ℕ → Dev nD → Vec Ideal S512x512 .bf16) (x : Vec Ideal S2x512x768 .f32) (wq : Vec Ideal S768x512 .f32) (K V : Dev nD → Vec Ideal S2x512x8x64 .f32) (wo : Vec Ideal S512x768 .f32)
    (h0 : Sent Y 0 0 K) (h1 : Sent Y 1 1 K) (h2 : Sent Y 2 0 V) (h3 : Sent Y 3 1 V) (b : Fin 2) (r : Fin 512) (n : Fin 768) :
    R32 ((bodyRun Y d x wq (K d) (V d) wo d rfl).1 (ix3 b r n)) = outF d x wq K V wo b r n := by
  match d with
  | 0 | 1 | 2 | 3 =>
    unfold bodyRun
    dsimp only
    apply whole
    · exact OutT.mk
    · iterate 16 apply FinL.step
      exact FinL.base
    · iterate 16 apply FinA.step
      exact FinA.base
    · iterate 4 (apply DenL.step (p2 := .inl rfl) (p3 := rfl) (isMask_of _ fun i j => rfl))
      exact DenL.nil
    · iterate 4 (apply DenA.step (isMask_of _ fun i j => rfl))
      exact DenA.nil
    · repeat (apply LpT.step; (first | apply Pick.three | apply Pick.two | apply Pick.one); (intro l r h i j; pointwise))
      exact .base
    · repeat (apply ApT.step; (first | apply Pick.three | apply Pick.two | apply Pick.one); (first | apply Pick.three | apply Pick.two | apply Pick.one); (intro l r h i j; pointwise); (intro l r h i j; pointwise))
      exact .base
    · apply headsOf_q
      intro i j
      exact q_apply i j
    · rfl
    · apply headsOf_same
      · exact mat0_apply _
      · exact mat1_apply _
    · apply headsOf_same
      · exact mat2_apply _
      · exact mat3_apply _
    · refine ⟨?_, ?_, ?_⟩
      all_goals
        apply headsOf_same
        · intro i j; exact (slot0_apply _ i j).trans (h0 _ i j)
        · intro i j; exact (slot1_apply _ i j).trans (h1 _ i j)
    · refine ⟨?_, ?_, ?_⟩
      all_goals
        apply headsOf_same
        · intro i j; exact (slot0_apply _ i j).trans (h2 _ i j)
        · intro i j; exact (slot1_apply _ i j).trans (h3 _ i j)
    · decide +kernel

end Cert.Ring

end
-- ==== Proof.Mask.lean ====
module
public import proofs.«01_k».proof.Proof.Gen.ReferenceIdeal.Run
public import proofs.«01_k».proof.Proof.Count
public import Idealize.ShloMosaic.Lib.Pointwise
public import Idealize.ShloMosaic.Lib.Pointwise.IndexVar
public import Idealize.ShloMosaic.Lib.IdealHost
public import Idealize.ShloMosaic.PureOps.Ideal.Laws
@[expose] public section
noncomputable section
namespace Cert.Refer
open Cert.ReferenceIdeal Cert.ReferenceIdeal.Gen
open Idealize.ShloMosaic
open scoped BigOperators

/-! # The reference's result, read out

Of the whole arrays: `x` of shape 2×2048×768, `wq`, `K`, `V` of shape 2×2048×8×64 and `wo`. -/

/-- The block number of each row. -/
def blkW : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

theorem blkW_apply (i : Fin 2048) : blkW (ix1 i) = BitVec.ofNat 32 (i.val / 64) := by
  revert i; decide +kernel

/-- A row's blocks down the rows, and along them. -/
def rowW (b : IVec S2048 32) : IVec S2048x2048 32 := broadcastInDim S2048x2048 ![0, 1] bcast_S2048x1_S2048x2048_0_1 (broadcastInDim S2048x1 ![0] bcast_S2048_S2048x1_0 b)
def lineW (b : IVec S2048 32) : IVec S1x2048 32 := broadcastInDim S1x2048 ![1] bcast_S2048_S1x2048_1 b
def colW (b : IVec S2048 32) : IVec S2048x2048 32 := broadcastInDim S2048x2048 ![0, 1] bcast_S1x2048_S2048x2048_0_1 (lineW b)
def threeW : IVec S_ 32 := select (cmpi .eq (id (constantI S_ 32 3#32)) (constantI S_ 32 0#32)) (constantI S_ 32 1#32) (id (constantI S_ 32 3#32))
def zeroW : IVec S2048x2048 32 := broadcastInDim S2048x2048 ![] bcast_S_S2048x2048 (constantI S_ 32 0#32)
def remW (b : IVec S2048 32) : IVec S2048x2048 32 := Host.remsi (addi (rowW b) (colW b)) (broadcastInDim S2048x2048 ![] bcast_S_S2048x2048 threeW)
/-- The mask. -/
def keepV (b : IVec S2048 32) : IVec S2048x2048 1 :=
  ori (ori (cmpi .eq (rowW b) (colW b)) (broadcastInDim S2048x2048 ![0, 1] bcast_S1x2048_S2048x2048_0_1 (cmpi .eq (lineW b) (broadcastInDim S1x2048 ![] bcast_S_S1x2048 (constantI S_ 32 0#32))))) (cmpi .eq (select (andi (cmpi .ne (cmpi .slt (remW b) zeroW) (broadcastInDim S2048x2048 ![] bcast_S_S2048x2048 (cmpi .slt threeW (constantI S_ 32 0#32)))) (cmpi .ne (remW b) zeroW)) (addi (remW b) (broadcastInDim S2048x2048 ![] bcast_S_S2048x2048 threeW)) (remW b)) zeroW)

/-- The scores, masked. -/
def scV (k : IVec S2048x2048 1) (x : FVec Ideal S2x2048x768 .f32) (wq : FVec Ideal S768x512 .f32) (K : FVec Ideal S2x2048x8x64 .f32) : FVec Ideal S2x8x2048x2048 .f32 :=
  select (broadcastInDim S2x8x2048x2048 ![0, 1, 2, 3] bcast_S1x1x2048x2048_S2x8x2048x2048_0_1_2_3 (broadcastInDim S1x1x2048x2048 ![2, 3] bcast_S2048x2048_S1x1x2048x2048_2_3 k)) (mulf (Host.dotGeneral dot_S2x2048x8x64_S2x2048x8x64_S2x8x2048x2048_3_3_1_1_02_02 none (shapeCast _ (Host.dotGeneral dot_S2x2048x768_S768x512_S2x2048x512_2_0_01_1_n_n none x wq) shapeCasts_S2x2048x512_S2x2048x8x64) K) (broadcastInDim S2x8x2048x2048 ![] bcast_S_S2x8x2048x2048 (constant S_ .f32 0x3E000000#32))) (broadcastInDim S2x8x2048x2048 ![] bcast_S_S2x8x2048x2048 (id (constant S_ .f32 0xFF800000#32)))
/-- Each row's greatest score. -/
def mxV (s : FVec Ideal S2x8x2048x2048 .f32) : FVec Ideal S2x8x2048 .f32 := Host.reduce FloatOps.maximumf s (constant S_ .f32 0xFF800000#32) reducesTo_S2x8x2048x2048_S2x8x2048_d3 h_S_
/-- The exponentials. -/
def exV (s : FVec Ideal S2x8x2048x2048 .f32) (mx : FVec Ideal S2x8x2048 .f32) : FVec Ideal S2x8x2048x2048 .f32 :=
  Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2 mx)))
/-- Whether a row keeps any key. -/
def anyV (k : IVec S2048x2048 1) : IVec S2048 1 := Host.reduce IntOp.ori k (constantI S_ 1 0#1) reducesTo_S2048x2048_S2048_d1 h_S_
def anyB (a : IVec S2048 1) : IVec S1x1x2048x1 1 := broadcastInDim S1x1x2048x1 ![2] bcast_S2048_S1x1x2048x1_2 a
/-- The weights. -/
def wtV (a : IVec S2048 1) (e : FVec Ideal S2x8x2048x2048 .f32) : FVec Ideal S2x8x2048x2048 .f32 :=
  select (broadcastInDim S2x8x2048x2048 ![0, 1, 2, 3] bcast_S1x1x2048x1_S2x8x2048x2048_0_1_2_3 (anyB a)) (Host.divf e (broadcastInDim S2x8x2048x2048 ![0, 1, 2, 3] bcast_S2x8x2048x1_S2x8x2048x2048_0_1_2_3 (select (broadcastInDim S2x8x2048x1 ![0, 1, 2, 3] bcast_S1x1x2048x1_S2x8x2048x1_0_1_2_3 (anyB a)) (broadcastInDim S2x8x2048x1 ![0, 1, 2] bcast_S2x8x2048_S2x8x2048x1_0_1_2 (Host.reduceAdd e (constant S_ .f32 0x00000000#32) reducesTo_S2x8x2048x2048_S2x8x2048_d3 h_S_)) (broadcastInDim S2x8x2048x1 ![] bcast_S_S2x8x2048x1 (id (constant S_ .f32 0x3F800000#32)))))) (broadcastInDim S2x8x2048x2048 ![] bcast_S_S2x8x2048x2048 (id (constant S_ .f32 0x00000000#32)))
/-- The weighted values, through the last product. -/
def outV (w : FVec Ideal S2x8x2048x2048 .f32) (V : FVec Ideal S2x2048x8x64 .f32) (wo : FVec Ideal S512x768 .f32) : FVec Ideal S2x2048x768 .f32 :=
  Host.dotGeneral dot_S2x2048x512_S512x768_S2x2048x768_2_0_01_1_n_n none (shapeCast _ (transpose S2x2048x8x64 [0, 3, 1, 2] (Host.dotGeneral dot_S2x2048x8x64_S2x8x2048x2048_S2x8x64x2048_1_3_3_2_02_01 none V w) transposes_S2x8x64x2048_S2x2048x8x64_0_3_1_2) shapeCasts_S2x2048x8x64_S2x2048x512) wo

def refV (x : FVec Ideal S2x2048x768 .f32) (wq : FVec Ideal S768x512 .f32) (K V : FVec Ideal S2x2048x8x64 .f32) (wo : FVec Ideal S512x768 .f32) : FVec Ideal S2x2048x768 .f32 :=
  outV (wtV (anyV (keepV blkW)) (exV (scV (keepV blkW) x wq K) (mxV (scV (keepV blkW) x wq K)))) V wo

theorem res_eq (m : (ℓ : Loc nD τ sig) → Buf (Elt Ideal) ℓ) (c : Dev nD) :
    Value.res_main_v44 m c = refV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## The mask -/

theorem rowW_apply (b : IVec S2048 32) (i j : Fin 2048) : rowW b (ix2 i j) = b (ix1 i) := by
  refine congrArg b (funext fun a => ?_)
  obtain rfl : a = 0 := Subsingleton.elim (α := Fin 1) _ _
  rfl
theorem colW_apply (b : IVec S2048 32) (i j : Fin 2048) : colW b (ix2 i j) = b (ix1 j) := by
  refine congrArg b (funext fun a => ?_)
  obtain rfl : a = 0 := Subsingleton.elim (α := Fin 1) _ _
  rfl
/-- One entry of the mask, of the two block numbers, the modulus, whether the key's block is the first, and whether the
    modulus is negative. -/
def keepS (q k t : BitVec 32) (l n : BitVec 1) : BitVec 1 :=
  IntOp.ori (IntOp.ori (IntOp.cmpi .eq q k) l) (IntOp.cmpi .eq (Scalar.select (IntOp.andi (IntOp.cmpi .ne (IntOp.cmpi .slt (IntOp.remsi .host (IntOp.addi q k) t) 0#32) n)
    (IntOp.cmpi .ne (IntOp.remsi .host (IntOp.addi q k) t) 0#32)) (IntOp.addi (IntOp.remsi .host (IntOp.addi q k) t) t) (IntOp.remsi .host (IntOp.addi q k) t)) 0#32)
def keep1 (q k : BitVec 32) : BitVec 1 := keepS q k 3#32 (IntOp.cmpi .eq k 0#32) 0#1
theorem zeroW_at (i : S2048x2048.Idx) : zeroW i = 0#32 := rfl
theorem threeB_at (i : S2048x2048.Idx) : broadcastInDim S2048x2048 ![] bcast_S_S2048x2048 threeW i = 3#32 := by
  rw [ValueIdx.broadcastInDim_scalar_apply]; decide
theorem negB_at (i : S2048x2048.Idx) : broadcastInDim S2048x2048 ![] bcast_S_S2048x2048 (cmpi .slt threeW (constantI S_ 32 0#32)) i = 0#1 := by
  rw [ValueIdx.broadcastInDim_scalar_apply]; decide
theorem firstB_at (b : IVec S2048 32) (i : S2048x2048.Idx) : broadcastInDim S2048x2048 ![0, 1] bcast_S1x2048_S2048x2048_0_1 (cmpi .eq (lineW b) (broadcastInDim S1x2048 ![] bcast_S_S1x2048 (constantI S_ 32 0#32))) i = IntOp.cmpi .eq (colW b i) 0#32 := rfl
def keepG (r c t z : IVec S2048x2048 32) (l n : IVec S2048x2048 1) : IVec S2048x2048 1 :=
  ori (ori (cmpi .eq r c) l) (cmpi .eq (select (andi (cmpi .ne (cmpi .slt (Host.remsi (addi r c) t) z) n) (cmpi .ne (Host.remsi (addi r c) t) z)) (addi (Host.remsi (addi r c) t) t) (Host.remsi (addi r c) t)) z)
theorem keepG_at (r c t z : IVec S2048x2048 32) (l n : IVec S2048x2048 1) (i : S2048x2048.Idx) (hz : z i = 0#32) : keepG r c t z l n i = keepS (r i) (c i) (t i) (l i) (n i) := by
  unfold keepS
  rw [← hz]
  rfl
theorem keepV_at (b : IVec S2048 32) (i : S2048x2048.Idx) : keepV b i = keep1 (rowW b i) (colW b i) :=
  (keepG_at (rowW b) (colW b) _ zeroW _ _ i (zeroW_at i)).trans (by rw [threeB_at, negB_at, firstB_at]; rfl)
theorem keepV_apply (b : IVec S2048 32) (i j : Fin 2048) : keepV b (ix2 i j) = keep1 (b (ix1 i)) (b (ix1 j)) := by
  rw [keepV_at, rowW_apply, colW_apply]
theorem keep1_val : ∀ q k : Fin 32, keep1 (BitVec.ofNat 32 q.val) (BitVec.ofNat 32 k.val) = if Cert.Ring.Msk q.val k.val then 1#1 else 0#1 := by
  decide +kernel
theorem mask_apply (i j : Fin 2048) : keepV blkW (ix2 i j) = if Cert.Ring.Msk (i.val / 64) (j.val / 64) then 1#1 else 0#1 := by
  rw [keepV_apply, blkW_apply, blkW_apply]
  exact keep1_val ⟨i.val / 64, by omega⟩ ⟨j.val / 64, by omega⟩
theorem fold_or (s : Finset (Fin 2048)) (f : Fin 2048 → BitVec 1) (i : Fin 2048) (hi : i ∈ s) (hf : f i = 1#1) : s.fold (IntOp.ori (w := 1)) 0#1 f = 1#1 := by
  rw [← Finset.insert_erase hi, Finset.fold_insert (Finset.notMem_erase i s), hf]
  exact (show ∀ z : BitVec 1, IntOp.ori 1#1 z = 1#1 by decide) _
theorem red1 : S2048x2048.Reduces [1] S2048 := by decide
theorem any_apply (i : Fin 2048) : anyV (keepV blkW) (ix1 i) = 1#1 := by
  refine (Host.reduce_eq_fold_single (s := S2048x2048) (t := S2048) (a := 1) (IntOp.ori (w := 1)) (keepV blkW) _ reducesTo_S2048x2048_S2048_d1 red1 h_S_ (ix1 i)).trans ?_
  refine fold_or _ _ i (Finset.mem_univ i) ?_
  have : red1.lift (ix1 i) i = ix2 i i := by
    funext a; revert a; rw [Fin.forall_fin_two]; exact ⟨Fin.ext rfl, Fin.ext rfl⟩
  show keepV blkW (red1.lift (ix1 i) i) = 1#1
  rw [this, mask_apply, if_pos (.inl rfl)]

end Cert.Refer

end
-- ==== Proof.Soft.lean ====
module
public import proofs.«01_k».proof.Proof.Ends
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
/-! # The algebra of the softmax over the extended reals -/

/-- A real number. -/
def Fin1 (x : EReal) : Prop := ∃ r : ℝ, x = (r : EReal)

theorem Fin1.mul {x y : EReal} (hx : Fin1 x) (hy : Fin1 y) : Fin1 (x * y) := by
  obtain ⟨r, rfl⟩ := hx; obtain ⟨s, rfl⟩ := hy; exact ⟨r * s, (EReal.coe_mul r s).symm⟩
theorem coe_total {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]
theorem Fin1.sum {ι : Type} (s : Finset ι) {f : ι → EReal} (h : ∀ i, Fin1 (f i)) : Fin1 (∑ i ∈ s, f i) := by
  choose g hg using h
  exact ⟨∑ i ∈ s, g i, by rw [coe_total]; exact Finset.sum_congr rfl fun i _ => hg i⟩

/-- A factor that is a real at least zero moves out of any sum. -/
theorem sum_scale {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem sum_pair (a b n : ℕ) (hn : a * b = n) (f : ℕ → EReal) : ∑ k : Fin n, f k = ∑ i : Fin a, ∑ j : Fin b, f (b * i + j) := by
  subst hn
  rw [← Fintype.sum_prod_type' (f := fun (i : Fin a) (j : Fin b) => f (b * i + j))]
  refine (Fintype.sum_equiv finProdFinEquiv _ _ fun x => ?_).symm
  congr 1
  show b * x.1.val + x.2.val = x.2.val + b * x.1.val
  omega

theorem eighth_eq : eighth = (((1 : ℝ) / 8 : ℝ) : EReal) := by
  simp [eighth, Ideal.ofBits, Ideal.ieee, -EReal.coe_mul]; norm_num

/-- A weighted mean of any extended reals, the weights the exponentials of scores from which a real `M` has been taken
    off, is the sum of the weighted values over the sum of the weights, without `M`. -/
theorem softmax {n : ℕ} (P : Fin n → Prop) [DecidablePred P] (a : Fin n → ℝ) (M : ℝ) (V : Fin n → EReal) (i : Fin n) (hi : P i) :
    ∑ j, V j * Ideal.div (Ideal.exp ((if P j then (a j : EReal) else ⊥) - (M : EReal))) (∑ j, Ideal.exp ((if P j then (a j : EReal) else ⊥) - (M : EReal)))
      = Ideal.div (∑ j, if P j then Ideal.exp (a j) * V j else 0) (∑ j, if P j then Ideal.exp (a j) else 0) := by
  let t : Fin n → ℝ := fun j => if P j then Real.exp (a j) else 0
  have ht : ∀ j, 0 ≤ t j := fun j => by dsimp only [t]; split <;> positivity
  have hl : 0 < ∑ j, t j := Finset.sum_pos' (fun j _ => ht j) ⟨i, Finset.mem_univ i, by dsimp only [t]; rw [if_pos hi]; positivity⟩
  have hE : ∀ j, Ideal.exp ((if P j then (a j : EReal) else ⊥) - (M : EReal)) = ((t j * Real.exp (-M) : ℝ) : EReal) := by
    intro j
    dsimp only [t]
    split
    · rw [← EReal.coe_sub, ← Real.exp_add]; rfl
    · rw [EReal.bot_sub, zero_mul]; rfl
  have hL : (∑ j, if P j then Ideal.exp (a j) else 0) = ((∑ j, t j : ℝ) : EReal) := by
    rw [coe_total]
    refine Finset.sum_congr rfl fun j _ => ?_
    dsimp only [t]
    split <;> rfl
  have hA : ∀ j, (if P j then Ideal.exp (a j) * V j else 0) = (t j : EReal) * V j := by
    intro j
    dsimp only [t]
    split
    · rfl
    · rw [EReal.coe_zero, zero_mul]
  simp only [hE, hA, hL]
  rw [← coe_total, ← Finset.sum_mul, Ideal.div_coe hl.ne', ← sum_scale _ _ (by positivity)]
  refine Finset.sum_congr rfl fun j _ => ?_
  rw [Ideal.div_coe (mul_pos hl (Real.exp_pos _)).ne', ← EReal.coe_mul, mul_comm (V j), mul_right_comm (t j : EReal), ← EReal.coe_mul]
  congr 2
  have := (Real.exp_pos (-M)).ne'
  have := hl.ne'
  field_simp

/-- A running maximum of scores of which some are reals and the others −∞ is a real. -/
theorem max_real {n : ℕ} (s : Fin n → EReal) (h : ∀ j, s j ≠ ⊤) (i : Fin n) (hi : s i ≠ ⊥) : Fin1 ((Finset.univ : Finset (Fin n)).fold max ⊥ s) := by
  have h1 : (Finset.univ : Finset (Fin n)).fold max ⊥ s < ⊤ := (Finset.fold_max_lt _).2 ⟨bot_lt_top, fun j _ => lt_top_iff_ne_top.2 (h j)⟩
  have h2 : ⊥ < (Finset.univ : Finset (Fin n)).fold max ⊥ s := lt_of_lt_of_le (bot_lt_iff_ne_bot.2 hi) ((Finset.le_fold_max _).2 (.inr ⟨i, Finset.mem_univ i, le_rfl⟩))
  exact ⟨_, (EReal.coe_toReal h1.ne h2.ne').symm⟩

end Cert.Ring

end
-- ==== Proof.Refer.lean ====
module
public import proofs.«01_k».proof.Proof.Gen.ReferenceIdeal.Run
public import proofs.«01_k».proof.Proof.Count
public import Idealize.ShloMosaic.Lib.Pointwise
public import Idealize.ShloMosaic.Lib.Pointwise.IndexVar
public import proofs.«01_k».proof.Proof.Mask
public import proofs.«01_k».proof.Proof.Soft
public import Idealize.ShloMosaic.Lib.IdealHost
public import Idealize.ShloMosaic.PureOps.Ideal.Laws
@[expose] public section
noncomputable section
namespace Cert.Refer
open Cert.ReferenceIdeal Cert.ReferenceIdeal.Gen
open Idealize.ShloMosaic
open scoped BigOperators
open Cert.Ring (Msk Fin1 eighth)

/-! # The reference's result in closed form -/

/-- The scores before their scale. -/
def RS (x : FVec Ideal S2x2048x768 .f32) (wq : FVec Ideal S768x512 .f32) (K : FVec Ideal S2x2048x8x64 .f32) (b : Fin 2) (h : Fin 8) (i j : Fin 2048) : EReal :=
  ∑ e : Fin 64, (∑ n : Fin 768, x (ix3 b i n) * wq (ix2 n ⟨h.val * 64 + e.val, by omega⟩)) * K (ix4 b j h e)

theorem neg_inf : Ideal.ofBits .f32 0xFF800000#32 = ⊥ := by simp [Ideal.ofBits, Ideal.ieee]

theorem scV_apply (x : FVec Ideal S2x2048x768 .f32) (wq : FVec Ideal S768x512 .f32) (K : FVec Ideal S2x2048x8x64 .f32) (b : Fin 2) (h : Fin 8) (i j : Fin 2048) :
    scV (keepV blkW) x wq K (ix4 b h i j) = if Msk (i.val / 64) (j.val / 64) then RS x wq K b h i j * eighth else ⊥ := by
  have e : ∀ k : IVec S2048x2048 1, scV k x wq K (ix4 b h i j) = Scalar.select (k (ix2 i j)) (RS x wq K b h i j * eighth) (Ideal.ofBits .f32 0xFF800000#32) := by
    intro k; unfold scV RS; pointwise; rfl
  rw [e, mask_apply, neg_inf]
  by_cases hm : Msk (i.val / 64) (j.val / 64)
  · rw [if_pos hm, if_pos hm]; rfl
  · rw [if_neg hm, if_neg hm]; rfl

theorem red3 : S2x8x2048x2048.Reduces [3] S2x8x2048 := by decide
theorem mxV_apply (s : FVec Ideal S2x8x2048x2048 .f32) (b : Fin 2) (h : Fin 8) (i : Fin 2048) :
    mxV s (ix3 b h i) = (Finset.univ : Finset (Fin 2048)).fold max ⊥ fun j => s (ix4 b h i j) := by
  refine (Host.reduce_eq_fold_single (s := S2x8x2048x2048) (t := S2x8x2048) (a := 3) (FloatOps.maximumf (F := Ideal) (φ := .f32)) s _ reducesTo_S2x8x2048x2048_S2x8x2048_d3 red3 h_S_ (ix3 b h i)).trans ?_
  have hl : s ∘ red3.lift (ix3 b h i) = fun j : Fin 2048 => s (ix4 b h i j) := by
    funext j
    refine congrArg s ?_
    funext a; revert a
    show ∀ a : Fin 4, _
    simp only [Fin.forall_fin_succ]
    exact ⟨Fin.ext rfl, Fin.ext rfl, Fin.ext rfl, Fin.ext rfl, fun a => a.elim0⟩
  rw [hl]
  show Finset.fold _ (Ideal.ofBits .f32 0xFF800000#32) _ _ = _
  rw [neg_inf]
  rfl

theorem exV_apply (s : FVec Ideal S2x8x2048x2048 .f32) (mx : FVec Ideal S2x8x2048 .f32) (b : Fin 2) (h : Fin 8) (i j : Fin 2048) :
    exV s mx (ix4 b h i j) = Ideal.exp (s (ix4 b h i j) - mx (ix3 b h i)) := by
  unfold exV; pointwise

theorem wtV_apply (a : IVec S2048 1) (e : FVec Ideal S2x8x2048x2048 .f32) (b : Fin 2) (h : Fin 8) (i j : Fin 2048) (ha : a (ix1 i) = 1#1) :
    wtV a e (ix4 b h i j) = Ideal.div (e (ix4 b h i j)) (∑ x, e (ix4 b h i x)) := by
  unfold wtV anyB
  pointwise
  rw [ha]
  rfl

theorem outV_apply (w : FVec Ideal S2x8x2048x2048 .f32) (V : FVec Ideal S2x2048x8x64 .f32) (wo : FVec Ideal S512x768 .f32) (b : Fin 2) (i : Fin 2048) (n : Fin 768) :
    outV w V wo (ix3 b i n) = ∑ k : Fin 512, (∑ j : Fin 2048, V (ix4 b j ⟨k.val / 64, by omega⟩ ⟨k.val % 64, by omega⟩) * w (ix4 b ⟨k.val / 64, by omega⟩ i j)) * wo (ix2 k n) := by
  unfold outV; pointwise

theorem RS_real {x : FVec Ideal S2x2048x768 .f32} {wq : FVec Ideal S768x512 .f32} {K : FVec Ideal S2x2048x8x64 .f32} (hx : ∀ i, Fin1 (x i)) (hw : ∀ i, Fin1 (wq i)) (hK : ∀ i, Fin1 (K i))
    (b : Fin 2) (h : Fin 8) (i j : Fin 2048) : Fin1 (RS x wq K b h i j * eighth) :=
  (Fin1.sum _ fun _ => (Fin1.sum _ fun _ => (hx _).mul (hw _)).mul (hK _)).mul ⟨_, Cert.Ring.eighth_eq⟩

/-- The reference: of the kept keys, the sum of the weighted values over the sum of the weights, through the last product. -/
theorem refV_apply {x : FVec Ideal S2x2048x768 .f32} {wq : FVec Ideal S768x512 .f32} {K : FVec Ideal S2x2048x8x64 .f32} (V : FVec Ideal S2x2048x8x64 .f32) (wo : FVec Ideal S512x768 .f32)
    (hx : ∀ i, Fin1 (x i)) (hw : ∀ i, Fin1 (wq i)) (hK : ∀ i, Fin1 (K i)) (b : Fin 2) (i : Fin 2048) (n : Fin 768) :
    refV x wq K V wo (ix3 b i n) = ∑ k : Fin 512,
      Ideal.div (∑ j : Fin 2048, if Msk (i.val / 64) (j.val / 64) then Ideal.exp (RS x wq K b ⟨k.val / 64, by omega⟩ i j * eighth) * V (ix4 b j ⟨k.val / 64, by omega⟩ ⟨k.val % 64, by omega⟩) else 0)
        (∑ j : Fin 2048, if Msk (i.val / 64) (j.val / 64) then Ideal.exp (RS x wq K b ⟨k.val / 64, by omega⟩ i j * eighth) else 0) * wo (ix2 k n) := by
  unfold refV
  rw [outV_apply]
  refine Finset.sum_congr rfl fun k _ => congrArg (· * _) ?_
  have hk : k.val / 64 < 8 := by omega
  choose a ha using fun j => RS_real hx hw hK b ⟨k.val / 64, hk⟩ i j
  have hd : Msk (i.val / 64) (i.val / 64) := .inl rfl
  have hs : ∀ j, scV (keepV blkW) x wq K (ix4 b ⟨k.val / 64, hk⟩ i j) = if Msk (i.val / 64) (j.val / 64) then ((a j : ℝ) : EReal) else ⊥ := fun j => by rw [scV_apply, ha]
  obtain ⟨M, hM⟩ : Fin1 (mxV (scV (keepV blkW) x wq K) (ix3 b ⟨k.val / 64, hk⟩ i)) := by
    rw [mxV_apply]
    refine Cert.Ring.max_real _ (fun j => ?_) i ?_
    · rw [hs]; split
      · exact EReal.coe_ne_top _
      · exact bot_ne_top
    · rw [hs, if_pos hd]; exact EReal.coe_ne_bot _
  have he : ∀ j, exV (scV (keepV blkW) x wq K) (mxV (scV (keepV blkW) x wq K)) (ix4 b ⟨k.val / 64, hk⟩ i j)
      = Ideal.exp ((if Msk (i.val / 64) (j.val / 64) then ((a j : ℝ) : EReal) else ⊥) - (M : EReal)) := fun j => by rw [exV_apply, hs, hM]
  simp only [wtV_apply _ _ _ _ _ _ (any_apply i), he, ha]
  exact Cert.Ring.softmax (fun j : Fin 2048 => Msk (i.val / 64) (j.val / 64)) a M _ i hd

end Cert.Refer

end
-- ==== Proof.Meet.lean ====
module
public import proofs.«01_k».proof.Proof.Ends
public import proofs.«01_k».proof.Proof.Refer
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Cert.Refer (RS)

/-! # The devices' results and the reference's -/

/-- Row `r` of device `o`'s block in the whole array. -/
def gr (o : Dev nD) (r : Fin 512) : Fin 2048 := ⟨512 * o.val + r.val, by have := o.isLt; show _ < 2048; unfold nD at this; omega⟩

section
variable {X : Vec Ideal Cert.ReferenceIdeal.S2x2048x768 .f32} {wq : Vec Ideal S768x512 .f32} {K V : Vec Ideal Cert.ReferenceIdeal.S2x2048x8x64 .f32} {wo : Vec Ideal S512x768 .f32}
variable {d : Dev nD} {x : Vec Ideal S2x512x768 .f32} {Kb Vb : Dev nD → Vec Ideal S2x512x8x64 .f32}
variable (hx : ∀ (b : Fin 2) (r : Fin 512) (n : Fin 768), x (ix3 b r n) = X (ix3 b (gr d r) n))
variable (hK : ∀ (o : Dev nD) (b : Fin 2) (j : Fin 512) (h : Fin 8) (e : Fin 64), Kb o (ix4 b j h e) = K (ix4 b (gr o j) h e))
variable (hV : ∀ (o : Dev nD) (b : Fin 2) (j : Fin 512) (h : Fin 8) (e : Fin 64), Vb o (ix4 b j h e) = V (ix4 b (gr o j) h e))
include hx hK

theorem wt_meet (b : Fin 2) (h : Fin 8) (r : Fin 512) (o : Dev nD) (j : Fin 512) :
    wt (QH x wq) (KN (Kb o)) b h r j = Ideal.exp (RS X wq K b h (gr d r) (gr o j) * eighth) := by
  unfold wt RS
  rw [eighth_eq, ← sum_scale _ _ (by norm_num : (0 : ℝ) ≤ 1 / 8)]
  congr 1
  refine Finset.sum_congr rfl fun e _ => ?_
  unfold QH KN
  rw [at4_eq _ b.isLt j.isLt h.isLt e.isLt, eighth_eq, mul_right_comm]
  refine congrArg (· * _) (congr_arg₂ (· * ·) (Finset.sum_congr rfl fun n _ => ?_) (hK o b j h e))
  rw [at3_eq _ b.isLt r.isLt n.isLt, at2_eq _ n.isLt (show 64 * h.val + e.val < 512 by omega)]
  refine congr_arg₂ (· * ·) (hx b r n) (congrArg wq ?_)
  simp only [Nat.mul_comm 64 h.val]

/-- The kept keys of all devices' blocks are those of the whole array. -/
theorem keys_meet (r : Fin 512) (f : Dev nD → Fin 512 → EReal) (g : Fin 2048 → EReal) (hfg : ∀ o j, f o j = g (gr o j)) :
    (∑ o : Dev nD, ∑ j : Fin 512, if Msk (8 * d + r / 64) (8 * o + j / 64) then f o j else 0)
      = ∑ j : Fin 2048, if Msk ((gr d r).val / 64) (j.val / 64) then g j else 0 := by
  have := sum_pair 4 512 2048 rfl fun j => if h : j < 2048 then (if Msk ((gr d r).val / 64) (j / 64) then g ⟨j, h⟩ else 0) else 0
  refine Eq.trans ?_ (this.symm.trans (Finset.sum_congr rfl fun j _ => dif_pos j.isLt))
  refine Finset.sum_congr rfl fun o _ => Finset.sum_congr rfl fun j _ => ?_
  have ho : o.val < 4 := o.isLt
  rw [dif_pos (show 512 * o.val + j.val < 2048 by omega), hfg]
  rw [show (gr d r).val / 64 = 8 * d.val + r.val / 64 by show (512 * d.val + r.val) / 64 = _; omega, show (512 * o.val + j.val) / 64 = 8 * o.val + j.val / 64 by omega]
  rfl

include hV in
theorem outF_meet (b : Fin 2) (r : Fin 512) (n : Fin 768) :
    outF d x wq Kb Vb wo b r n = ∑ k : Fin 512,
      Ideal.div (∑ j : Fin 2048, if Msk ((gr d r).val / 64) (j.val / 64) then Ideal.exp (RS X wq K b ⟨k.val / 64, by omega⟩ (gr d r) j * eighth) * V (ix4 b j ⟨k.val / 64, by omega⟩ ⟨k.val % 64, by omega⟩) else 0)
        (∑ j : Fin 2048, if Msk ((gr d r).val / 64) (j.val / 64) then Ideal.exp (RS X wq K b ⟨k.val / 64, by omega⟩ (gr d r) j * eighth) else 0) * wo (ix2 k n) := by
  have := sum_pair 8 64 512 rfl fun k => Ideal.div (aAll d x wq Kb Vb b (k / 64) r (k % 64)) (lAll d x wq Kb b (k / 64) r) * at2 (n0 := 512) (n1 := 768) wo k n
  refine Eq.trans ?_ (this.symm.trans (Finset.sum_congr rfl fun k _ => ?_))
  · unfold outF
    refine Finset.sum_congr rfl fun h _ => Finset.sum_congr rfl fun e _ => ?_
    rw [show (64 * h.val + e.val) / 64 = h.val by omega, show (64 * h.val + e.val) % 64 = e.val by omega]
  · have hk : k.val / 64 < 8 := by omega
    have hk' : k.val % 64 < 64 := by omega
    rw [at2_eq _ k.isLt n.isLt]
    refine congrArg (· * _) (congr_arg₂ Ideal.div ?_ ?_)
    · refine keys_meet hx hK r (fun o j => wt (QH x wq) (KN (Kb o)) b (k.val / 64) r j * KN (Vb o) b (k.val / 64) j (k.val % 64)) _ fun o j => ?_
      refine congr_arg₂ (· * ·) (wt_meet hx hK b ⟨k.val / 64, hk⟩ r o j) ?_
      unfold KN
      rw [at4_eq _ b.isLt j.isLt hk hk']
      exact hV o b j ⟨_, hk⟩ ⟨_, hk'⟩
    · exact keys_meet hx hK r (fun o j => wt (QH x wq) (KN (Kb o)) b (k.val / 64) r j) _ fun o j => wt_meet hx hK b ⟨k.val / 64, hk⟩ r o j
end

end Cert.Ring

end
-- ==== Proof.Whole.lean ====
module
public import proofs.«01_k».proof.Proof.Launch
public import proofs.«01_k».proof.Proof.Gen.KernelIdeal
public import proofs.«01_k».proof.Proof.Gen.KernelIdeal.Skeleton
public import proofs.«01_k».proof.Proof.Pack
public import Idealize.ShloMosaic.Lib.Pipeline.ValueKit.Geometry
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Idealize.ShloMosaic.Pipeline

/-! # The blocks are the whole arrays, and the result's array is the device's result -/

variable {F : FTy → Type} [FloatOps F] [Named F] (m : (ℓ : Loc nD τ sig) → Buf (Elt F) ℓ) (ρ : Dev nD → PrngReg)

theorem index0 : win0_0.index (0 : Fin 1) = ![0, 0, 0] := by decide +kernel
theorem xIn_eq (c : Dev nD) : xIn m c = m ((c.tc : Thread nD τ).loc main_arg0) := by
  funext i
  unfold xIn
  blk_simp
  refine congrArg (m ((c.tc : Thread nD τ).loc main_arg0)) ?_
  blk_ext [index0]
theorem index1 : win0_1.index (0 : Fin 1) = ![0, 0] := by decide +kernel
theorem wIn_eq (c : Dev nD) : wIn m c = m ((c.tc : Thread nD τ).loc main_arg1) := by
  funext i
  unfold wIn
  blk_simp
  refine congrArg (m ((c.tc : Thread nD τ).loc main_arg1)) ?_
  blk_ext [index1]
theorem index2 : win0_2.index (0 : Fin 1) = ![0, 0, 0, 0] := by decide +kernel
theorem kIn_eq (c : Dev nD) : kIn m c = m ((c.tc : Thread nD τ).loc main_arg2) := by
  funext i
  unfold kIn
  blk_simp
  refine congrArg (m ((c.tc : Thread nD τ).loc main_arg2)) ?_
  blk_ext [index2]
theorem index3 : win0_3.index (0 : Fin 1) = ![0, 0, 0, 0] := by decide +kernel
theorem vIn_eq (c : Dev nD) : vIn m c = m ((c.tc : Thread nD τ).loc main_arg3) := by
  funext i
  unfold vIn
  blk_simp
  refine congrArg (m ((c.tc : Thread nD τ).loc main_arg3)) ?_
  blk_ext [index3]
theorem index4 : win0_4.index (0 : Fin 1) = ![0, 0] := by decide +kernel
theorem oIn_eq (c : Dev nD) : oIn m c = m ((c.tc : Thread nD τ).loc main_arg4) := by
  funext i
  unfold oIn
  blk_simp
  refine congrArg (m ((c.tc : Thread nD τ).loc main_arg4)) ?_
  blk_ext [index4]
theorem finalA_out (c : Dev nD) : finalA m ρ c (5 : Fin 6) = outAt m c := by
  unfold finalA
  refine (dats m ρ 0 c).arrAt_eq_of_after_last (5 : Fin 6) t₀ (by decide +kernel) _ fun j => ?_
  blk_simp
  rfl

end Cert.Ring

end
-- ==== Proof.Final.lean ====
module
public import proofs.«01_k».proof.Proof.Value
public import proofs.«01_k».proof.Proof.Meet
public import proofs.«01_k».proof.Proof.Whole
public import proofs.«01_k».proof.Proof.Gen.KernelIdeal
public import proofs.«01_k».proof.Proof.Gen.KernelIdeal.Skeleton
public import proofs.«01_k».proof.Proof.Pack
public import Idealize.ShloMosaic.Lib.Pointwise
public import Idealize.ShloMosaic.Lib.Pointwise.IndexVar
public import Idealize.ShloMosaic.Lib.Pipeline.Value
public import Idealize.ShloMosaic.Lib.Pipeline.Kit
public import Idealize.ShloMosaic.Lib.Tactic

@[expose] public section
noncomputable section
namespace Cert.Ring
open Cert.KernelIdeal Cert.KernelIdeal.Gen
open Idealize.ShloMosaic
open scoped BigOperators
open Cert.Refer (refV refV_apply)

/-! # What the devices send, their results, and the claim's hypotheses -/

variable (m : (ℓ : Loc nD τ sig) → Buf (Elt Ideal) ℓ)

theorem sent_of {l : ℕ} {b : ℕ} {K : Dev nD → Vec Ideal S2x512x8x64 .f32} (M : Dev nD → Vec Ideal S512x512 .bf16) (hY : ∀ o, Yof m l o = permB o (M o))
    (hM : ∀ o (i j : Fin 512), R16 (M o (ix2 i j)) = KN (K o) b (j.val / 64) i.val (j.val % 64)) : Sent (Yof m) l b K := by
  intro o i j
  rw [hY, rowN_val]
  exact hM o (rowAt o i) j
theorem sent0 : Sent (Yof m) 0 0 (kIn m) := sent_of m (fun o => mat0 (kIn m o)) (fun _ => rfl) fun o => mat0_apply _
theorem sent1 : Sent (Yof m) 1 1 (kIn m) := sent_of m (fun o => mat1 (kIn m o)) (fun _ => rfl) fun o => mat1_apply _
theorem sent2 : Sent (Yof m) 2 0 (vIn m) := sent_of m (fun o => mat2 (vIn m o)) (fun _ => rfl) fun o => mat2_apply _
theorem sent3 : Sent (Yof m) 3 1 (vIn m) := sent_of m (fun o => mat3 (vIn m o)) (fun _ => rfl) fun o => mat3_apply _

theorem outAt_apply (d : Dev nD) (b : Fin 2) (r : Fin 512) (n : Fin 768) :
    R32 (outAt m d (ix3 b r n)) = outF d (xIn m d) (wIn m d) (kIn m) (vIn m) (oIn m d) b r n :=
  run_value d (Yof m) (xIn m d) (wIn m d) (kIn m) (vIn m) (oIn m d) (sent0 m) (sent1 m) (sent2 m) (sent3 m) b r n

/-! ## Blocks -/

theorem block3_apply (c : Dev nD) (X : Vec Ideal Cert.ReferenceIdeal.S2x2048x768 .f32) (b : Fin 2) (r : Fin 512) (n : Fin 768) :
    Layout.block ⟨3, ![2, 512, 768]⟩ ⟨3, ![2, 2048, 768]⟩ 1 4 c X (by decide) (ix3 b r n) = X (ix3 b (gr c r) n) := by
  rw [Layout.block_apply]
  refine congrArg X (funext fun a => Fin.ext ?_)
  rw [Layout.Tiles.idx_val]
  revert a
  show ∀ a : Fin 3, _
  simp only [Fin.forall_fin_succ]
  exact ⟨rfl, Nat.mul_comm _ _ ▸ rfl, rfl, fun a => a.elim0⟩
theorem block4_apply (c : Dev nD) (X : Vec Ideal Cert.ReferenceIdeal.S2x2048x8x64 .f32) (b : Fin 2) (r : Fin 512) (h : Fin 8) (e : Fin 64) :
    Layout.block ⟨4, ![2, 512, 8, 64]⟩ ⟨4, ![2, 2048, 8, 64]⟩ 1 4 c X (by decide) (ix4 b r h e) = X (ix4 b (gr c r) h e) := by
  rw [Layout.block_apply]
  refine congrArg X (funext fun a => Fin.ext ?_)
  rw [Layout.Tiles.idx_val]
  revert a
  show ∀ a : Fin 4, _
  simp only [Fin.forall_fin_succ]
  exact ⟨rfl, Nat.mul_comm _ _ ▸ rfl, rfl, rfl, fun a => a.elim0⟩

theorem gr_onto (i : Fin 2048) : ∃ (o : Dev nD) (r : Fin 512), gr o r = i :=
  ⟨⟨i.val / 512, by show _ < 4; omega⟩, ⟨i.val % 512, by omega⟩, Fin.ext (by show 512 * (i.val / 512) + i.val % 512 = i.val; omega)⟩

/-! ## The precondition -/

theorem top_word : Ideal.ofBits .f32 0x7F800000#32 = ⊤ := by simp [Ideal.ofBits, Ideal.ieee]

theorem real_of_lt {s : Shape} (v : FVec Ideal s .f32) (w : FVec Ideal s .f32) (hw : ∀ i, w i = (⊤ : EReal)) (h : cmpf .olt (Host.absf v) w = fun _ => 1#1) (i : s.Idx) : Fin1 (v i) := by
  have hi := congrFun h i
  have : max (v i : EReal) (-(v i : EReal)) < ⊤ := by
    by_contra hn
    revert hi
    show BitVec.ofBool _ = _ → _
    rw [hw]
    show BitVec.ofBool (decide (max (v i : EReal) (-(v i : EReal)) < ⊤)) = 1#1 → False
    rw [decide_eq_false hn]
    decide
  obtain ⟨h1, h2⟩ := max_lt_iff.1 this
  refine ⟨_, (EReal.coe_toReal h1.ne fun hb => ?_).symm⟩
  rw [hb] at h2
  exact absurd h2 (by simp)
theorem real_blocks3 {X : Vec Ideal Cert.ReferenceIdeal.S2x2048x768 .f32} {x : Dev nD → Vec Ideal S2x512x768 .f32} (hx : ∀ d b r n, x d (ix3 b r n) = X (ix3 b (gr d r) n))
    (h : ∀ d i, Fin1 (x d i)) (i : Cert.ReferenceIdeal.S2x2048x768.Idx) : Fin1 (X i) := by
  obtain ⟨b, g, n, rfl⟩ : ∃ (b : Fin 2) (g : Fin 2048) (n : Fin 768), i = ix3 b g n := ⟨i 0, i 1, i 2, (ix3_eta i).symm⟩
  obtain ⟨o, r, rfl⟩ := gr_onto g
  rw [← hx]; exact h o _
theorem real_blocks4 {X : Vec Ideal Cert.ReferenceIdeal.S2x2048x8x64 .f32} {x : Dev nD → Vec Ideal S2x512x8x64 .f32} (hx : ∀ d b r h e, x d (ix4 b r h e) = X (ix4 b (gr d r) h e))
    (hr : ∀ d i, Fin1 (x d i)) (i : Cert.ReferenceIdeal.S2x2048x8x64.Idx) : Fin1 (X i) := by
  obtain ⟨b, g, h, e, rfl⟩ : ∃ (b : Fin 2) (g : Fin 2048) (h : Fin 8) (e : Fin 64), i = ix4 b g h e := ⟨i 0, i 1, i 2, i 3, (ix4_eta i).symm⟩
  obtain ⟨o, r, rfl⟩ := gr_onto g
  rw [← hx]; exact hr o _

/-! ## The results -/

/-- Every device's result is its block of the reference's. -/
theorem out_block {X : Vec Ideal Cert.ReferenceIdeal.S2x2048x768 .f32} {wq : Vec Ideal S768x512 .f32} {K V : Vec Ideal Cert.ReferenceIdeal.S2x2048x8x64 .f32} {wo : Vec Ideal S512x768 .f32}
    (hX : ∀ i, Fin1 (X i)) (hw : ∀ i, Fin1 (wq i)) (hK : ∀ i, Fin1 (K i))
    (h0 : ∀ c : Dev nD, m ((c.tc : Thread nD τ).loc main_arg0) = Layout.block ⟨3, ![2, 512, 768]⟩ ⟨3, ![2, 2048, 768]⟩ 1 4 c X)
    (h1 : ∀ c : Dev nD, m ((c.tc : Thread nD τ).loc main_arg1) = wq)
    (h2 : ∀ c : Dev nD, m ((c.tc : Thread nD τ).loc main_arg2) = Layout.block ⟨4, ![2, 512, 8, 64]⟩ ⟨4, ![2, 2048, 8, 64]⟩ 1 4 c K)
    (h3 : ∀ c : Dev nD, m ((c.tc : Thread nD τ).loc main_arg3) = Layout.block ⟨4, ![2, 512, 8, 64]⟩ ⟨4, ![2, 2048, 8, 64]⟩ 1 4 c V)
    (h4 : ∀ c : Dev nD, m ((c.tc : Thread nD τ).loc main_arg4) = wo) (c : Dev nD) :
    outAt m c = Layout.block ⟨3, ![2, 512, 768]⟩ ⟨3, ![2, 2048, 768]⟩ 1 4 c (refV X wq K V wo) := by
  funext i
  obtain ⟨b, r, n, rfl⟩ : ∃ (b : Fin 2) (r : Fin 512) (n : Fin 768), i = ix3 b r n := ⟨i 0, i 1, i 2, (ix3_eta i).symm⟩
  rw [block3_apply, refV_apply V wo hX hw hK]
  refine (outAt_apply m c b r n).trans ?_
  rw [wIn_eq, oIn_eq, h1, h4]
  exact outF_meet (fun b r n => by rw [xIn_eq, h0]; exact block3_apply c X b r n)
    (fun o b j h e => by rw [kIn_eq, h2]; exact block4_apply o K b j h e) (fun o b j h e => by rw [vIn_eq, h3]; exact block4_apply o V b j h e) b r n

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Printed
public import proofs.«01_k».proof.Proof.Final
public import Idealize.ShloMosaic.Adequacy

@[expose] public section

noncomputable section

namespace Cert.Proof

open Idealize.ShloMosaic Idealize.SL.Sem

attribute [local instance] Cert.Kernel.Gen.facts Cert.KernelIdeal.Gen.facts Cert.ReferenceIdeal.Gen.facts

instance finiteFacts : Cert.Pre_finite_scores_KernelIdeal.Facts := ⟨by decide, by decide, by decide⟩
instance finiteFacts' : Cert.Pre_finite_scores_ReferenceIdeal.Facts := ⟨by decide, by decide, by decide⟩

theorem frame_kernelIdeal : Cert.quiescent_KernelIdeal := fun m ρ _ =>
  (θ_run Cert.KernelIdeal.defs _ _).mono (fun _ h => ⟨Cert.Ring.inputs_kept m ρ h.1, h.2⟩) (Cert.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal Cert.Ring in
/-- Of finite queries, weights and keys, every device ends holding its block of the reference's result. -/
theorem algebraic : Cert.algebraic_KernelIdeal_ReferenceIdeal_pre_finite_scores_KernelIdeal := by
  intro m g m' g' hp hm
  have h0 := fun c => (hm c).1
  have h1 := fun c => (hm c).2.1
  have h2 := fun c => (hm c).2.2.1
  have h3 := fun c => (hm c).2.2.2.1
  have h4 := fun c => (hm c).2.2.2.2
  have hX := real_blocks3 (x := fun c => m ((c.tc : Thread nD τ).loc main_arg0)) (fun c b r n => by rw [h0]; exact block3_apply c _ b r n)
    fun c => real_of_lt _ _ (fun _ => top_word) (hp c).1
  have hw := fun i => h1 (0 : Dev nD) ▸ real_of_lt _ _ (fun _ => top_word) (hp (0 : Dev nD)).2.1 i
  have hK := real_blocks4 (x := fun c => m ((c.tc : Thread nD τ).loc main_arg2)) (fun c b r h e => by rw [h2]; exact block4_apply c _ b r h e)
    fun c => real_of_lt _ _ (fun _ => top_word) (hp c).2.2
  refine ⟨_, (θ_run Cert.KernelIdeal.defs _ _).mono (fun r h c => ⟨?_, inputs_kept m g h.1 c⟩) (run_main (F := Ideal) m g),
    (θ_run Cert.ReferenceIdeal.defs _ _).mono (fun r h => ⟨(h 0).1.trans (Cert.Refer.res_eq m' 0), (h 0).2⟩) (Cert.ReferenceIdeal.Value.run (F := Ideal) m' g')⟩
  exact (h.1 c (5 : Fin 6)).trans ((finalA_out m g c).trans (out_block m hX hw hK h0 h1 h2 h3 h4 c))

theorem claim : Cert.Claim := ⟨Cert.Kernel.Gen.facts, Cert.KernelIdeal.Gen.facts, Cert.ReferenceIdeal.Gen.facts, finiteFacts, finiteFacts',
  Cert.Printed.frame_kernel, frame_kernelIdeal, fun m ρ _ => frame_kernelIdeal m ρ trivial, frame_reference, fun m ρ _ => frame_reference m ρ trivial,
  IdealRules.named_const.statement Cert.KernelIdeal.κ "mask" .f32 0xF149F2CA#32 ⊥ rfl, algebraic⟩

end Cert.Proof

end
